-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v357) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x2048x1024 : Shape := ⟨3, ![8, 2048, 1024]⟩
abbrev S8x6144 : Shape := ⟨2, ![8, 6144]⟩
abbrev S1024 : Shape := ⟨1, ![1024]⟩
abbrev S1024x2048 : Shape := ⟨2, ![1024, 2048]⟩
abbrev S8x2x128x128 : Shape := ⟨4, ![8, 2, 128, 128]⟩
abbrev S8x6x1024 : Shape := ⟨3, ![8, 6, 1024]⟩
abbrev S1024x8x2x128 : Shape := ⟨4, ![1024, 8, 2, 128]⟩
abbrev S2x8x128x1024 : Shape := ⟨4, ![2, 8, 128, 1024]⟩
abbrev S2048x1024 : Shape := ⟨2, ![2048, 1024]⟩
abbrev S8x8 : Shape := ⟨2, ![8, 8]⟩
abbrev S_ : Shape := ⟨0, ![]⟩
abbrev S2x128x8x128 : Shape := ⟨4, ![2, 128, 8, 128]⟩
abbrev S2x128x8x1x128 : Shape := ⟨5, ![2, 128, 8, 1, 128]⟩
abbrev S1x1x8x8x1 : Shape := ⟨5, ![1, 1, 8, 8, 1]⟩
abbrev S2x128x8x8x128 : Shape := ⟨5, ![2, 128, 8, 8, 128]⟩
abbrev S2x1024x1024 : Shape := ⟨3, ![2, 1024, 1024]⟩
abbrev S16384x1024 : Shape := ⟨2, ![16384, 1024]⟩
abbrev S1x1024 : Shape := ⟨2, ![1, 1024]⟩
abbrev S1024x16384 : Shape := ⟨2, ![1024, 16384]⟩
abbrev S8x128x16384 : Shape := ⟨3, ![8, 128, 16384]⟩
abbrev S8x64x16384 : Shape := ⟨3, ![8, 64, 16384]⟩
abbrev S512x1024 : Shape := ⟨2, ![512, 1024]⟩
abbrev S1x6x1024 : Shape := ⟨3, ![1, 6, 1024]⟩
abbrev S1024x512 : Shape := ⟨2, ![1024, 512]⟩
abbrev S8x128x512 : Shape := ⟨3, ![8, 128, 512]⟩
abbrev S8x64x512 : Shape := ⟨3, ![8, 64, 512]⟩
abbrev S1024x128 : Shape := ⟨2, ![1024, 128]⟩
abbrev S128x128 : Shape := ⟨2, ![128, 128]⟩
abbrev S1x1x1024 : Shape := ⟨3, ![1, 1, 1024]⟩
abbrev S512 : Shape := ⟨1, ![512]⟩
abbrev S512x1 : Shape := ⟨2, ![512, 1]⟩
abbrev S2048x512 : Shape := ⟨2, ![2048, 512]⟩
abbrev S1x1024x1024 : Shape := ⟨3, ![1, 1024, 1024]⟩
abbrev S1024x1024 : Shape := ⟨2, ![1024, 1024]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S1x128x128 : Shape := ⟨3, ![1, 128, 128]⟩
abbrev S64x128 : Shape := ⟨2, ![64, 128]⟩
abbrev S1x64x128 : Shape := ⟨3, ![1, 64, 128]⟩

abbrev nBuf : Space → Nat
  | .hbm => 32
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x2048, .f32⟩
  | .hbm, ⟨4, _⟩ => ⟨S8x2x128x128, .f32⟩
  | .hbm, ⟨5, _⟩ => ⟨S8x6x1024, .f32⟩
  | .hbm, ⟨6, _⟩ => ⟨S1024x8x2x128, .f32⟩
  | .hbm, ⟨7, _⟩ => ⟨S2x8x128x1024, .f32⟩
  | .hbm, ⟨8, _⟩ => ⟨S2048x1024, .f32⟩
  | .hbm, ⟨9, _⟩ => ⟨S2048x1024, .bf16⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S2x128x8x128, .f32⟩
  | .hbm, ⟨18, _⟩ => ⟨S2x128x8x1x128, .f32⟩
  | .hbm, ⟨19, _⟩ => ⟨S1x1x8x8x1, .f32⟩
  | .hbm, ⟨20, _⟩ => ⟨S2x128x8x8x128, .f32⟩
  | .hbm, ⟨21, _⟩ => ⟨S2x128x8x8x128, .f32⟩
  | .hbm, ⟨22, _⟩ => ⟨S2x128x8x8x128, .f32⟩
  | .hbm, ⟨23, _⟩ => ⟨S2x1024x1024, .f32⟩
  | .hbm, ⟨24, _⟩ => ⟨S2x1024x1024, .bf16⟩
  | .hbm, ⟨25, _⟩ => ⟨S16384x1024, .f32⟩
  | .hbm, ⟨26, _⟩ => ⟨S1x1024, .f32⟩
  | .hbm, ⟨27, _⟩ => ⟨S1024x16384, .bf16⟩
  | .hbm, ⟨28, _⟩ => ⟨S8x128x16384, .i32⟩
  | .hbm, ⟨29, _⟩ => ⟨S8x128x16384, .i32⟩
  | .hbm, ⟨30, _⟩ => ⟨S8x64x16384, .i32⟩
  | .hbm, ⟨31, _⟩ => ⟨S8x64x16384, .i32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S2048x1024, .bf16⟩
  | .local _ .vmem, ⟨6, _⟩ => ⟨S2x1024x1024, .bf16⟩
  | .local _ .vmem, ⟨7, _⟩ => ⟨S1024x512, .bf16⟩
  | .local _ .vmem, ⟨8, _⟩ => ⟨S1024x512, .bf16⟩
  | .local _ .vmem, ⟨9, _⟩ => ⟨S8x128x512, .i32⟩
  | .local _ .vmem, ⟨10, _⟩ => ⟨S8x128x512, .i32⟩
  | .local _ .vmem, ⟨11, _⟩ => ⟨S8x128x512, .i32⟩
  | .local _ .vmem, ⟨12, _⟩ => ⟨S8x128x512, .i32⟩
  | .local _ .vmem, ⟨13, _⟩ => ⟨S8x64x512, .i32⟩
  | .local _ .vmem, ⟨14, _⟩ => ⟨S8x64x512, .i32⟩
  | .local _ .vmem, ⟨15, _⟩ => ⟨S8x64x512, .i32⟩
  | .local _ .vmem, ⟨16, _⟩ => ⟨S8x64x512, .i32⟩
  | .local _ .vmem, ⟨17, _⟩ => ⟨S1024x512, .f32⟩
  | .local _ .vmem, ⟨18, _⟩ => ⟨S1024x512, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S128x128, .f32⟩
  | .local _ .vmem, ⟨24, _⟩ => ⟨S128x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev main_v21_2 : Ref sig .tc := ⟨.hbm, 29, rfl⟩
abbrev main_v21_3 : Ref sig .tc := ⟨.hbm, 30, rfl⟩
abbrev main_v21_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32 : BitVec 32 := 0#32
  let c4_i32 : BitVec 32 := 4#32
  let v47 : BitVec 32 := Scalar.addi c0_i32 c4_i32
  let c1_i32 : BitVec 32 := 1#32
  ⟨c0_i32, v47, c1_i32⟩
def k0_mult1 (k0_t1 : Fin k0_t1_loop.trips) : BitVec 32 :=
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  v48
def k0_off1 (k0_t1 : Fin k0_t1_loop.trips) : Fin 2 → Nat :=
  let c0_27 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v50 : Index := Scalar.indexCast v49
  ![0, v50.toNat]
@[reducible] def k0_t2_loop : Scf.Loop 32 :=
  let c0_i32_287 : BitVec 32 := 0#32
  let c16_i32 : BitVec 32 := 16#32
  let v567 : BitVec 32 := Scalar.addi c0_i32_287 c16_i32
  let c1_i32_288 : BitVec 32 := 1#32
  ⟨c0_i32_287, v567, c1_i32_288⟩
def k0_mult2 (k0_t2 : Fin k0_t2_loop.trips) : BitVec 32 :=
  let c0_i32_287 : BitVec 32 := 0#32
  let c1_i32_288 : BitVec 32 := 1#32
  let arg23 : BitVec 32 := Scf.iv c0_i32_287 c1_i32_288 k0_t2
  let c8_i32 : BitVec 32 := 8#32
  let v20445 : BitVec 32 := Scalar.muli arg23 c8_i32
  v20445
def k0_off2 (k0_t2 : Fin k0_t2_loop.trips) : Fin 2 → Nat :=
  let c0_i32_287 : BitVec 32 := 0#32
  let c1_i32_288 : BitVec 32 := 1#32
  let arg23 : BitVec 32 := Scf.iv c0_i32_287 c1_i32_288 k0_t2
  let c8_i32 : BitVec 32 := 8#32
  let v20445 : BitVec 32 := Scalar.muli arg23 c8_i32
  let v20446 : BitVec 32 := v20445
  let v20447 : Index := Scalar.indexCast v20446
  let c0_9246 : Index := 0#32
  ![v20447.toNat, 0]
def k0_off3 (k0_t1 : Fin k0_t1_loop.trips) : Fin 2 → Nat :=
  let c0_8990 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20190 : Index := Scalar.indexCast v49
  ![0, v20190.toNat]
@[reducible] def k0_t3_loop : Scf.Loop 32 :=
  let c0_i32_9377 : BitVec 32 := 0#32
  let c16_i32_9378 : BitVec 32 := 16#32
  let v20707 : BitVec 32 := Scalar.addi c0_i32_9377 c16_i32_9378
  let c1_i32_9379 : BitVec 32 := 1#32
  ⟨c0_i32_9377, v20707, c1_i32_9379⟩
def k0_mult3 (k0_t3 : Fin k0_t3_loop.trips) : BitVec 32 :=
  let c0_i32_9377 : BitVec 32 := 0#32
  let c1_i32_9379 : BitVec 32 := 1#32
  let arg23 : BitVec 32 := Scf.iv c0_i32_9377 c1_i32_9379 k0_t3
  let c8_i32 : BitVec 32 := 8#32
  let v20963 : BitVec 32 := Scalar.muli arg23 c8_i32
  v20963
def k0_off4 (k0_t3 : Fin k0_t3_loop.trips) : Fin 2 → Nat :=
  let c0_i32_9377 : BitVec 32 := 0#32
  let c1_i32_9379 : BitVec 32 := 1#32
  let arg23 : BitVec 32 := Scf.iv c0_i32_9377 c1_i32_9379 k0_t3
  let c8_i32 : BitVec 32 := 8#32
  let v20963 : BitVec 32 := Scalar.muli arg23 c8_i32
  let v20964 : BitVec 32 := v20963
  let v20965 : Index := Scalar.indexCast v20964
  let c0_9637 : Index := 0#32
  ![v20965.toNat, 0]
def k0_off5 (k0_t1 : Fin k0_t1_loop.trips) : Fin 2 → Nat :=
  let c0_934 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v1473 : Index := Scalar.indexCast v49
  ![0, v1473.toNat]
@[reducible] def k0_t4_loop : Scf.Loop 32 :=
  let c0_i32_1321 : BitVec 32 := 0#32
  let c16_i32_1322 : BitVec 32 := 16#32
  let v1990 : BitVec 32 := Scalar.addi c0_i32_1321 c16_i32_1322
  let c1_i32_1323 : BitVec 32 := 1#32
  ⟨c0_i32_1321, v1990, c1_i32_1323⟩
def k0_mult4 (k0_t4 : Fin k0_t4_loop.trips) : BitVec 32 :=
  let c0_i32_1321 : BitVec 32 := 0#32
  let c1_i32_1323 : BitVec 32 := 1#32
  let arg23 : BitVec 32 := Scf.iv c0_i32_1321 c1_i32_1323 k0_t4
  let c8_i32 : BitVec 32 := 8#32
  let v20445 : BitVec 32 := Scalar.muli arg23 c8_i32
  v20445
def k0_off6 (k0_t4 : Fin k0_t4_loop.trips) : Fin 2 → Nat :=
  let c0_i32_1321 : BitVec 32 := 0#32
  let c1_i32_1323 : BitVec 32 := 1#32
  let arg23 : BitVec 32 := Scf.iv c0_i32_1321 c1_i32_1323 k0_t4
  let c8_i32 : BitVec 32 := 8#32
  let v20445 : BitVec 32 := Scalar.muli arg23 c8_i32
  let v20446 : BitVec 32 := v20445
  let v20447 : Index := Scalar.indexCast v20446
  let c0_9246 : Index := 0#32
  ![v20447.toNat, 0]
def k0_off7 (k0_t1 : Fin k0_t1_loop.trips) : Fin 2 → Nat :=
  let c0_8990 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20190 : Index := Scalar.indexCast v49
  ![0, v20190.toNat]
@[reducible] def k0_t5_loop : Scf.Loop 32 :=
  let c0_i32_9377 : BitVec 32 := 0#32
  let c16_i32_9378 : BitVec 32 := 16#32
  let v20707 : BitVec 32 := Scalar.addi c0_i32_9377 c16_i32_9378
  let c1_i32_9379 : BitVec 32 := 1#32
  ⟨c0_i32_9377, v20707, c1_i32_9379⟩
def k0_mult5 (k0_t5 : Fin k0_t5_loop.trips) : BitVec 32 :=
  let c0_i32_9377 : BitVec 32 := 0#32
  let c1_i32_9379 : BitVec 32 := 1#32
  let arg23 : BitVec 32 := Scf.iv c0_i32_9377 c1_i32_9379 k0_t5
  let c8_i32 : BitVec 32 := 8#32
  let v20963 : BitVec 32 := Scalar.muli arg23 c8_i32
  v20963
def k0_off8 (k0_t5 : Fin k0_t5_loop.trips) : Fin 2 → Nat :=
  let c0_i32_9377 : BitVec 32 := 0#32
  let c1_i32_9379 : BitVec 32 := 1#32
  let arg23 : BitVec 32 := Scf.iv c0_i32_9377 c1_i32_9379 k0_t5
  let c8_i32 : BitVec 32 := 8#32
  let v20963 : BitVec 32 := Scalar.muli arg23 c8_i32
  let v20964 : BitVec 32 := v20963
  let v20965 : Index := Scalar.indexCast v20964
  let c0_9637 : Index := 0#32
  ![v20965.toNat, 0]
def k0_off9 (k0_t1 : Fin k0_t1_loop.trips) : Fin 2 → Nat :=
  let c0_5406 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v11331 : Index := Scalar.indexCast v49
  ![0, v11331.toNat]
def k0_off10 (k0_t1 : Fin k0_t1_loop.trips) : Fin 2 → Nat :=
  let c8_5433 : Index := 8#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v11399 : Index := Scalar.indexCast v49
  ![8, v11399.toNat]
def k0_off11 (k0_t1 : Fin k0_t1_loop.trips) : Fin 2 → Nat :=
  let c16_5460 : Index := 16#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v11467 : Index := Scalar.indexCast v49
  ![16, v11467.toNat]
def k0_off12 (k0_t1 : Fin k0_t1_loop.trips) : Fin 2 → Nat :=
  let c24_5487 : Index := 24#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v11535 : Index := Scalar.indexCast v49
  ![24, v11535.toNat]
def k0_off13 (k0_t1 : Fin k0_t1_loop.trips) : Fin 2 → Nat :=
  let c32_5514 : Index := 32#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v11603 : Index := Scalar.indexCast v49
  ![32, v11603.toNat]
def k0_off14 (k0_t1 : Fin k0_t1_loop.trips) : Fin 2 → Nat :=
  let c40_5541 : Index := 40#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v11671 : Index := Scalar.indexCast v49
  ![40, v11671.toNat]
def k0_off15 (k0_t1 : Fin k0_t1_loop.trips) : Fin 2 → Nat :=
  let c48_5568 : Index := 48#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v11739 : Index := Scalar.indexCast v49
  ![48, v11739.toNat]
def k0_off16 (k0_t1 : Fin k0_t1_loop.trips) : Fin 2 → Nat :=
  let c56_5595 : Index := 56#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v11807 : Index := Scalar.indexCast v49
  ![56, v11807.toNat]
def k0_off17 (k0_t1 : Fin k0_t1_loop.trips) : Fin 2 → Nat :=
  let c64_5622 : Index := 64#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v11875 : Index := Scalar.indexCast v49
  ![64, v11875.toNat]
def k0_off18 (k0_t1 : Fin k0_t1_loop.trips) : Fin 2 → Nat :=
  let c72_5649 : Index := 72#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v11943 : Index := Scalar.indexCast v49
  ![72, v11943.toNat]
def k0_off19 (k0_t1 : Fin k0_t1_loop.trips) : Fin 2 → Nat :=
  let c80_5676 : Index := 80#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12011 : Index := Scalar.indexCast v49
  ![80, v12011.toNat]
def k0_off20 (k0_t1 : Fin k0_t1_loop.trips) : Fin 2 → Nat :=
  let c88_5703 : Index := 88#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12079 : Index := Scalar.indexCast v49
  ![88, v12079.toNat]
def k0_off21 (k0_t1 : Fin k0_t1_loop.trips) : Fin 2 → Nat :=
  let c96_5730 : Index := 96#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12147 : Index := Scalar.indexCast v49
  ![96, v12147.toNat]
def k0_off22 (k0_t1 : Fin k0_t1_loop.trips) : Fin 2 → Nat :=
  let c104_5757 : Index := 104#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12215 : Index := Scalar.indexCast v49
  ![104, v12215.toNat]
def k0_off23 (k0_t1 : Fin k0_t1_loop.trips) : Fin 2 → Nat :=
  let c112_5784 : Index := 112#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12283 : Index := Scalar.indexCast v49
  ![112, v12283.toNat]
def k0_off24 (k0_t1 : Fin k0_t1_loop.trips) : Fin 2 → Nat :=
  let c120_5811 : Index := 120#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12351 : Index := Scalar.indexCast v49
  ![120, v12351.toNat]
def k0_off25 (k0_t1 : Fin k0_t1_loop.trips) : Fin 2 → Nat :=
  let c128_5838 : Index := 128#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12419 : Index := Scalar.indexCast v49
  ![128, v12419.toNat]
def k0_off26 (k0_t1 : Fin k0_t1_loop.trips) : Fin 2 → Nat :=
  let c136_5865 : Index := 136#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12487 : Index := Scalar.indexCast v49
  ![136, v12487.toNat]
def k0_off27 (k0_t1 : Fin k0_t1_loop.trips) : Fin 2 → Nat :=
  let c144_5892 : Index := 144#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12555 : Index := Scalar.indexCast v49
  ![144, v12555.toNat]
def k0_off28 (k0_t1 : Fin k0_t1_loop.trips) : Fin 2 → Nat :=
  let c152_5919 : Index := 152#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12623 : Index := Scalar.indexCast v49
  ![152, v12623.toNat]
def k0_off29 (k0_t1 : Fin k0_t1_loop.trips) : Fin 2 → Nat :=
  let c160_5946 : Index := 160#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12691 : Index := Scalar.indexCast v49
  ![160, v12691.toNat]
def k0_off30 (k0_t1 : Fin k0_t1_loop.trips) : Fin 2 → Nat :=
  let c168_5973 : Index := 168#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12759 : Index := Scalar.indexCast v49
  ![168, v12759.toNat]
def k0_off31 (k0_t1 : Fin k0_t1_loop.trips) : Fin 2 → Nat :=
  let c176_6000 : Index := 176#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12827 : Index := Scalar.indexCast v49
  ![176, v12827.toNat]
def k0_off32 (k0_t1 : Fin k0_t1_loop.trips) : Fin 2 → Nat :=
  let c184_6027 : Index := 184#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12895 : Index := Scalar.indexCast v49
  ![184, v12895.toNat]
def k0_off33 (k0_t1 : Fin k0_t1_loop.trips) : Fin 2 → Nat :=
  let c192_6054 : Index := 192#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v12963 : Index := Scalar.indexCast v49
  ![192, v12963.toNat]
def k0_off34 (k0_t1 : Fin k0_t1_loop.trips) : Fin 2 → Nat :=
  let c200_6081 : Index := 200#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13031 : Index := Scalar.indexCast v49
  ![200, v13031.toNat]
def k0_off35 (k0_t1 : Fin k0_t1_loop.trips) : Fin 2 → Nat :=
  let c208_6108 : Index := 208#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13099 : Index := Scalar.indexCast v49
  ![208, v13099.toNat]
def k0_off36 (k0_t1 : Fin k0_t1_loop.trips) : Fin 2 → Nat :=
  let c216_6135 : Index := 216#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13167 : Index := Scalar.indexCast v49
  ![216, v13167.toNat]
def k0_off37 (k0_t1 : Fin k0_t1_loop.trips) : Fin 2 → Nat :=
  let c224_6162 : Index := 224#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13235 : Index := Scalar.indexCast v49
  ![224, v13235.toNat]
def k0_off38 (k0_t1 : Fin k0_t1_loop.trips) : Fin 2 → Nat :=
  let c232_6189 : Index := 232#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13303 : Index := Scalar.indexCast v49
  ![232, v13303.toNat]
def k0_off39 (k0_t1 : Fin k0_t1_loop.trips) : Fin 2 → Nat :=
  let c240_6216 : Index := 240#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13371 : Index := Scalar.indexCast v49
  ![240, v13371.toNat]
def k0_off40 (k0_t1 : Fin k0_t1_loop.trips) : Fin 2 → Nat :=
  let c248_6243 : Index := 248#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13439 : Index := Scalar.indexCast v49
  ![248, v13439.toNat]
def k0_off41 (k0_t1 : Fin k0_t1_loop.trips) : Fin 2 → Nat :=
  let c256_6270 : Index := 256#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13507 : Index := Scalar.indexCast v49
  ![256, v13507.toNat]
def k0_off42 (k0_t1 : Fin k0_t1_loop.trips) : Fin 2 → Nat :=
  let c264_6297 : Index := 264#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13575 : Index := Scalar.indexCast v49
  ![264, v13575.toNat]
def k0_off43 (k0_t1 : Fin k0_t1_loop.trips) : Fin 2 → Nat :=
  let c272_6324 : Index := 272#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13643 : Index := Scalar.indexCast v49
  ![272, v13643.toNat]
def k0_off44 (k0_t1 : Fin k0_t1_loop.trips) : Fin 2 → Nat :=
  let c280_6351 : Index := 280#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13711 : Index := Scalar.indexCast v49
  ![280, v13711.toNat]
def k0_off45 (k0_t1 : Fin k0_t1_loop.trips) : Fin 2 → Nat :=
  let c288_6378 : Index := 288#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13779 : Index := Scalar.indexCast v49
  ![288, v13779.toNat]
def k0_off46 (k0_t1 : Fin k0_t1_loop.trips) : Fin 2 → Nat :=
  let c296_6405 : Index := 296#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13847 : Index := Scalar.indexCast v49
  ![296, v13847.toNat]
def k0_off47 (k0_t1 : Fin k0_t1_loop.trips) : Fin 2 → Nat :=
  let c304_6432 : Index := 304#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13915 : Index := Scalar.indexCast v49
  ![304, v13915.toNat]
def k0_off48 (k0_t1 : Fin k0_t1_loop.trips) : Fin 2 → Nat :=
  let c312_6459 : Index := 312#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v13983 : Index := Scalar.indexCast v49
  ![312, v13983.toNat]
def k0_off49 (k0_t1 : Fin k0_t1_loop.trips) : Fin 2 → Nat :=
  let c320_6486 : Index := 320#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14051 : Index := Scalar.indexCast v49
  ![320, v14051.toNat]
def k0_off50 (k0_t1 : Fin k0_t1_loop.trips) : Fin 2 → Nat :=
  let c328_6513 : Index := 328#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14119 : Index := Scalar.indexCast v49
  ![328, v14119.toNat]
def k0_off51 (k0_t1 : Fin k0_t1_loop.trips) : Fin 2 → Nat :=
  let c336_6540 : Index := 336#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14187 : Index := Scalar.indexCast v49
  ![336, v14187.toNat]
def k0_off52 (k0_t1 : Fin k0_t1_loop.trips) : Fin 2 → Nat :=
  let c344_6567 : Index := 344#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14255 : Index := Scalar.indexCast v49
  ![344, v14255.toNat]
def k0_off53 (k0_t1 : Fin k0_t1_loop.trips) : Fin 2 → Nat :=
  let c352_6594 : Index := 352#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14323 : Index := Scalar.indexCast v49
  ![352, v14323.toNat]
def k0_off54 (k0_t1 : Fin k0_t1_loop.trips) : Fin 2 → Nat :=
  let c360_6621 : Index := 360#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14391 : Index := Scalar.indexCast v49
  ![360, v14391.toNat]
def k0_off55 (k0_t1 : Fin k0_t1_loop.trips) : Fin 2 → Nat :=
  let c368_6648 : Index := 368#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14459 : Index := Scalar.indexCast v49
  ![368, v14459.toNat]
def k0_off56 (k0_t1 : Fin k0_t1_loop.trips) : Fin 2 → Nat :=
  let c376_6675 : Index := 376#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14527 : Index := Scalar.indexCast v49
  ![376, v14527.toNat]
def k0_off57 (k0_t1 : Fin k0_t1_loop.trips) : Fin 2 → Nat :=
  let c384_6702 : Index := 384#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14595 : Index := Scalar.indexCast v49
  ![384, v14595.toNat]
def k0_off58 (k0_t1 : Fin k0_t1_loop.trips) : Fin 2 → Nat :=
  let c392_6729 : Index := 392#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14663 : Index := Scalar.indexCast v49
  ![392, v14663.toNat]
def k0_off59 (k0_t1 : Fin k0_t1_loop.trips) : Fin 2 → Nat :=
  let c400_6756 : Index := 400#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14731 : Index := Scalar.indexCast v49
  ![400, v14731.toNat]
def k0_off60 (k0_t1 : Fin k0_t1_loop.trips) : Fin 2 → Nat :=
  let c408_6783 : Index := 408#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14799 : Index := Scalar.indexCast v49
  ![408, v14799.toNat]
def k0_off61 (k0_t1 : Fin k0_t1_loop.trips) : Fin 2 → Nat :=
  let c416_6810 : Index := 416#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14867 : Index := Scalar.indexCast v49
  ![416, v14867.toNat]
def k0_off62 (k0_t1 : Fin k0_t1_loop.trips) : Fin 2 → Nat :=
  let c424_6837 : Index := 424#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v14935 : Index := Scalar.indexCast v49
  ![424, v14935.toNat]
def k0_off63 (k0_t1 : Fin k0_t1_loop.trips) : Fin 2 → Nat :=
  let c432_6864 : Index := 432#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15003 : Index := Scalar.indexCast v49
  ![432, v15003.toNat]
def k0_off64 (k0_t1 : Fin k0_t1_loop.trips) : Fin 2 → Nat :=
  let c440_6891 : Index := 440#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15071 : Index := Scalar.indexCast v49
  ![440, v15071.toNat]
def k0_off65 (k0_t1 : Fin k0_t1_loop.trips) : Fin 2 → Nat :=
  let c448_6918 : Index := 448#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15139 : Index := Scalar.indexCast v49
  ![448, v15139.toNat]
def k0_off66 (k0_t1 : Fin k0_t1_loop.trips) : Fin 2 → Nat :=
  let c456_6945 : Index := 456#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15207 : Index := Scalar.indexCast v49
  ![456, v15207.toNat]
def k0_off67 (k0_t1 : Fin k0_t1_loop.trips) : Fin 2 → Nat :=
  let c464_6972 : Index := 464#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15275 : Index := Scalar.indexCast v49
  ![464, v15275.toNat]
def k0_off68 (k0_t1 : Fin k0_t1_loop.trips) : Fin 2 → Nat :=
  let c472_6999 : Index := 472#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15343 : Index := Scalar.indexCast v49
  ![472, v15343.toNat]
def k0_off69 (k0_t1 : Fin k0_t1_loop.trips) : Fin 2 → Nat :=
  let c480_7026 : Index := 480#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15411 : Index := Scalar.indexCast v49
  ![480, v15411.toNat]
def k0_off70 (k0_t1 : Fin k0_t1_loop.trips) : Fin 2 → Nat :=
  let c488_7053 : Index := 488#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15479 : Index := Scalar.indexCast v49
  ![488, v15479.toNat]
def k0_off71 (k0_t1 : Fin k0_t1_loop.trips) : Fin 2 → Nat :=
  let c496_7080 : Index := 496#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15547 : Index := Scalar.indexCast v49
  ![496, v15547.toNat]
def k0_off72 (k0_t1 : Fin k0_t1_loop.trips) : Fin 2 → Nat :=
  let c504_7107 : Index := 504#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15615 : Index := Scalar.indexCast v49
  ![504, v15615.toNat]
def k0_off73 (k0_t1 : Fin k0_t1_loop.trips) : Fin 2 → Nat :=
  let c512_7134 : Index := 512#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15683 : Index := Scalar.indexCast v49
  ![512, v15683.toNat]
def k0_off74 (k0_t1 : Fin k0_t1_loop.trips) : Fin 2 → Nat :=
  let c520_7161 : Index := 520#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15751 : Index := Scalar.indexCast v49
  ![520, v15751.toNat]
def k0_off75 (k0_t1 : Fin k0_t1_loop.trips) : Fin 2 → Nat :=
  let c528_7188 : Index := 528#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15819 : Index := Scalar.indexCast v49
  ![528, v15819.toNat]
def k0_off76 (k0_t1 : Fin k0_t1_loop.trips) : Fin 2 → Nat :=
  let c536_7215 : Index := 536#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15887 : Index := Scalar.indexCast v49
  ![536, v15887.toNat]
def k0_off77 (k0_t1 : Fin k0_t1_loop.trips) : Fin 2 → Nat :=
  let c544_7242 : Index := 544#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v15955 : Index := Scalar.indexCast v49
  ![544, v15955.toNat]
def k0_off78 (k0_t1 : Fin k0_t1_loop.trips) : Fin 2 → Nat :=
  let c552_7269 : Index := 552#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16023 : Index := Scalar.indexCast v49
  ![552, v16023.toNat]
def k0_off79 (k0_t1 : Fin k0_t1_loop.trips) : Fin 2 → Nat :=
  let c560_7296 : Index := 560#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16091 : Index := Scalar.indexCast v49
  ![560, v16091.toNat]
def k0_off80 (k0_t1 : Fin k0_t1_loop.trips) : Fin 2 → Nat :=
  let c568_7323 : Index := 568#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16159 : Index := Scalar.indexCast v49
  ![568, v16159.toNat]
def k0_off81 (k0_t1 : Fin k0_t1_loop.trips) : Fin 2 → Nat :=
  let c576_7350 : Index := 576#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16227 : Index := Scalar.indexCast v49
  ![576, v16227.toNat]
def k0_off82 (k0_t1 : Fin k0_t1_loop.trips) : Fin 2 → Nat :=
  let c584_7377 : Index := 584#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16295 : Index := Scalar.indexCast v49
  ![584, v16295.toNat]
def k0_off83 (k0_t1 : Fin k0_t1_loop.trips) : Fin 2 → Nat :=
  let c592_7404 : Index := 592#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16363 : Index := Scalar.indexCast v49
  ![592, v16363.toNat]
def k0_off84 (k0_t1 : Fin k0_t1_loop.trips) : Fin 2 → Nat :=
  let c600_7431 : Index := 600#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16431 : Index := Scalar.indexCast v49
  ![600, v16431.toNat]
def k0_off85 (k0_t1 : Fin k0_t1_loop.trips) : Fin 2 → Nat :=
  let c608_7458 : Index := 608#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16499 : Index := Scalar.indexCast v49
  ![608, v16499.toNat]
def k0_off86 (k0_t1 : Fin k0_t1_loop.trips) : Fin 2 → Nat :=
  let c616_7485 : Index := 616#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16567 : Index := Scalar.indexCast v49
  ![616, v16567.toNat]
def k0_off87 (k0_t1 : Fin k0_t1_loop.trips) : Fin 2 → Nat :=
  let c624_7512 : Index := 624#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16635 : Index := Scalar.indexCast v49
  ![624, v16635.toNat]
def k0_off88 (k0_t1 : Fin k0_t1_loop.trips) : Fin 2 → Nat :=
  let c632_7539 : Index := 632#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16703 : Index := Scalar.indexCast v49
  ![632, v16703.toNat]
def k0_off89 (k0_t1 : Fin k0_t1_loop.trips) : Fin 2 → Nat :=
  let c640_7566 : Index := 640#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16771 : Index := Scalar.indexCast v49
  ![640, v16771.toNat]
def k0_off90 (k0_t1 : Fin k0_t1_loop.trips) : Fin 2 → Nat :=
  let c648_7593 : Index := 648#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16839 : Index := Scalar.indexCast v49
  ![648, v16839.toNat]
def k0_off91 (k0_t1 : Fin k0_t1_loop.trips) : Fin 2 → Nat :=
  let c656_7620 : Index := 656#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16907 : Index := Scalar.indexCast v49
  ![656, v16907.toNat]
def k0_off92 (k0_t1 : Fin k0_t1_loop.trips) : Fin 2 → Nat :=
  let c664_7647 : Index := 664#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v16975 : Index := Scalar.indexCast v49
  ![664, v16975.toNat]
def k0_off93 (k0_t1 : Fin k0_t1_loop.trips) : Fin 2 → Nat :=
  let c672_7674 : Index := 672#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17043 : Index := Scalar.indexCast v49
  ![672, v17043.toNat]
def k0_off94 (k0_t1 : Fin k0_t1_loop.trips) : Fin 2 → Nat :=
  let c680_7701 : Index := 680#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17111 : Index := Scalar.indexCast v49
  ![680, v17111.toNat]
def k0_off95 (k0_t1 : Fin k0_t1_loop.trips) : Fin 2 → Nat :=
  let c688_7728 : Index := 688#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17179 : Index := Scalar.indexCast v49
  ![688, v17179.toNat]
def k0_off96 (k0_t1 : Fin k0_t1_loop.trips) : Fin 2 → Nat :=
  let c696_7755 : Index := 696#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17247 : Index := Scalar.indexCast v49
  ![696, v17247.toNat]
def k0_off97 (k0_t1 : Fin k0_t1_loop.trips) : Fin 2 → Nat :=
  let c704_7782 : Index := 704#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17315 : Index := Scalar.indexCast v49
  ![704, v17315.toNat]
def k0_off98 (k0_t1 : Fin k0_t1_loop.trips) : Fin 2 → Nat :=
  let c712_7809 : Index := 712#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17383 : Index := Scalar.indexCast v49
  ![712, v17383.toNat]
def k0_off99 (k0_t1 : Fin k0_t1_loop.trips) : Fin 2 → Nat :=
  let c720_7836 : Index := 720#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17451 : Index := Scalar.indexCast v49
  ![720, v17451.toNat]
def k0_off100 (k0_t1 : Fin k0_t1_loop.trips) : Fin 2 → Nat :=
  let c728_7863 : Index := 728#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17519 : Index := Scalar.indexCast v49
  ![728, v17519.toNat]
def k0_off101 (k0_t1 : Fin k0_t1_loop.trips) : Fin 2 → Nat :=
  let c736_7890 : Index := 736#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17587 : Index := Scalar.indexCast v49
  ![736, v17587.toNat]
def k0_off102 (k0_t1 : Fin k0_t1_loop.trips) : Fin 2 → Nat :=
  let c744_7917 : Index := 744#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17655 : Index := Scalar.indexCast v49
  ![744, v17655.toNat]
def k0_off103 (k0_t1 : Fin k0_t1_loop.trips) : Fin 2 → Nat :=
  let c752_7944 : Index := 752#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17723 : Index := Scalar.indexCast v49
  ![752, v17723.toNat]
def k0_off104 (k0_t1 : Fin k0_t1_loop.trips) : Fin 2 → Nat :=
  let c760_7971 : Index := 760#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17791 : Index := Scalar.indexCast v49
  ![760, v17791.toNat]
def k0_off105 (k0_t1 : Fin k0_t1_loop.trips) : Fin 2 → Nat :=
  let c768_7998 : Index := 768#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17859 : Index := Scalar.indexCast v49
  ![768, v17859.toNat]
def k0_off106 (k0_t1 : Fin k0_t1_loop.trips) : Fin 2 → Nat :=
  let c776_8025 : Index := 776#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17927 : Index := Scalar.indexCast v49
  ![776, v17927.toNat]
def k0_off107 (k0_t1 : Fin k0_t1_loop.trips) : Fin 2 → Nat :=
  let c784_8052 : Index := 784#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v17995 : Index := Scalar.indexCast v49
  ![784, v17995.toNat]
def k0_off108 (k0_t1 : Fin k0_t1_loop.trips) : Fin 2 → Nat :=
  let c792_8079 : Index := 792#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18063 : Index := Scalar.indexCast v49
  ![792, v18063.toNat]
def k0_off109 (k0_t1 : Fin k0_t1_loop.trips) : Fin 2 → Nat :=
  let c800_8106 : Index := 800#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18131 : Index := Scalar.indexCast v49
  ![800, v18131.toNat]
def k0_off110 (k0_t1 : Fin k0_t1_loop.trips) : Fin 2 → Nat :=
  let c808_8133 : Index := 808#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18199 : Index := Scalar.indexCast v49
  ![808, v18199.toNat]
def k0_off111 (k0_t1 : Fin k0_t1_loop.trips) : Fin 2 → Nat :=
  let c816_8160 : Index := 816#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18267 : Index := Scalar.indexCast v49
  ![816, v18267.toNat]
def k0_off112 (k0_t1 : Fin k0_t1_loop.trips) : Fin 2 → Nat :=
  let c824_8187 : Index := 824#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18335 : Index := Scalar.indexCast v49
  ![824, v18335.toNat]
def k0_off113 (k0_t1 : Fin k0_t1_loop.trips) : Fin 2 → Nat :=
  let c832_8214 : Index := 832#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18403 : Index := Scalar.indexCast v49
  ![832, v18403.toNat]
def k0_off114 (k0_t1 : Fin k0_t1_loop.trips) : Fin 2 → Nat :=
  let c840_8241 : Index := 840#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18471 : Index := Scalar.indexCast v49
  ![840, v18471.toNat]
def k0_off115 (k0_t1 : Fin k0_t1_loop.trips) : Fin 2 → Nat :=
  let c848_8268 : Index := 848#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18539 : Index := Scalar.indexCast v49
  ![848, v18539.toNat]
def k0_off116 (k0_t1 : Fin k0_t1_loop.trips) : Fin 2 → Nat :=
  let c856_8295 : Index := 856#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18607 : Index := Scalar.indexCast v49
  ![856, v18607.toNat]
def k0_off117 (k0_t1 : Fin k0_t1_loop.trips) : Fin 2 → Nat :=
  let c864_8322 : Index := 864#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18675 : Index := Scalar.indexCast v49
  ![864, v18675.toNat]
def k0_off118 (k0_t1 : Fin k0_t1_loop.trips) : Fin 2 → Nat :=
  let c872_8349 : Index := 872#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18743 : Index := Scalar.indexCast v49
  ![872, v18743.toNat]
def k0_off119 (k0_t1 : Fin k0_t1_loop.trips) : Fin 2 → Nat :=
  let c880_8376 : Index := 880#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18811 : Index := Scalar.indexCast v49
  ![880, v18811.toNat]
def k0_off120 (k0_t1 : Fin k0_t1_loop.trips) : Fin 2 → Nat :=
  let c888_8403 : Index := 888#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18879 : Index := Scalar.indexCast v49
  ![888, v18879.toNat]
def k0_off121 (k0_t1 : Fin k0_t1_loop.trips) : Fin 2 → Nat :=
  let c896_8430 : Index := 896#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v18947 : Index := Scalar.indexCast v49
  ![896, v18947.toNat]
def k0_off122 (k0_t1 : Fin k0_t1_loop.trips) : Fin 2 → Nat :=
  let c904_8457 : Index := 904#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19015 : Index := Scalar.indexCast v49
  ![904, v19015.toNat]
def k0_off123 (k0_t1 : Fin k0_t1_loop.trips) : Fin 2 → Nat :=
  let c912_8484 : Index := 912#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19083 : Index := Scalar.indexCast v49
  ![912, v19083.toNat]
def k0_off124 (k0_t1 : Fin k0_t1_loop.trips) : Fin 2 → Nat :=
  let c920_8511 : Index := 920#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19151 : Index := Scalar.indexCast v49
  ![920, v19151.toNat]
def k0_off125 (k0_t1 : Fin k0_t1_loop.trips) : Fin 2 → Nat :=
  let c928_8538 : Index := 928#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19219 : Index := Scalar.indexCast v49
  ![928, v19219.toNat]
def k0_off126 (k0_t1 : Fin k0_t1_loop.trips) : Fin 2 → Nat :=
  let c936_8565 : Index := 936#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19287 : Index := Scalar.indexCast v49
  ![936, v19287.toNat]
def k0_off127 (k0_t1 : Fin k0_t1_loop.trips) : Fin 2 → Nat :=
  let c944_8592 : Index := 944#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19355 : Index := Scalar.indexCast v49
  ![944, v19355.toNat]
def k0_off128 (k0_t1 : Fin k0_t1_loop.trips) : Fin 2 → Nat :=
  let c952_8619 : Index := 952#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19423 : Index := Scalar.indexCast v49
  ![952, v19423.toNat]
def k0_off129 (k0_t1 : Fin k0_t1_loop.trips) : Fin 2 → Nat :=
  let c960_8646 : Index := 960#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19491 : Index := Scalar.indexCast v49
  ![960, v19491.toNat]
def k0_off130 (k0_t1 : Fin k0_t1_loop.trips) : Fin 2 → Nat :=
  let c968_8673 : Index := 968#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19559 : Index := Scalar.indexCast v49
  ![968, v19559.toNat]
def k0_off131 (k0_t1 : Fin k0_t1_loop.trips) : Fin 2 → Nat :=
  let c976_8700 : Index := 976#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19627 : Index := Scalar.indexCast v49
  ![976, v19627.toNat]
def k0_off132 (k0_t1 : Fin k0_t1_loop.trips) : Fin 2 → Nat :=
  let c984_8727 : Index := 984#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19695 : Index := Scalar.indexCast v49
  ![984, v19695.toNat]
def k0_off133 (k0_t1 : Fin k0_t1_loop.trips) : Fin 2 → Nat :=
  let c992_8754 : Index := 992#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19763 : Index := Scalar.indexCast v49
  ![992, v19763.toNat]
def k0_off134 (k0_t1 : Fin k0_t1_loop.trips) : Fin 2 → Nat :=
  let c1000_8781 : Index := 1000#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19831 : Index := Scalar.indexCast v49
  ![1000, v19831.toNat]
def k0_off135 (k0_t1 : Fin k0_t1_loop.trips) : Fin 2 → Nat :=
  let c1008_8808 : Index := 1008#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19899 : Index := Scalar.indexCast v49
  ![1008, v19899.toNat]
def k0_off136 (k0_t1 : Fin k0_t1_loop.trips) : Fin 2 → Nat :=
  let c1016_8835 : Index := 1016#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19967 : Index := Scalar.indexCast v49
  ![1016, v19967.toNat]
def k0_off137 (k0_t1 : Fin k0_t1_loop.trips) : Fin 3 → Nat :=
  let c0_8845 : Index := 0#32
  let c0_8846 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19985 : Index := Scalar.indexCast v49
  ![0, 0, v19985.toNat]
def k0_off138 (k0_t1 : Fin k0_t1_loop.trips) : Fin 3 → Nat :=
  let c0_8853 : Index := 0#32
  let c0_8854 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v19997 : Index := Scalar.indexCast v49
  ![0, 0, v19997.toNat]
def k0_off139 (k0_t1 : Fin k0_t1_loop.trips) : Fin 3 → Nat :=
  let c1_8865 : Index := 1#32
  let c0_8866 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20011 : Index := Scalar.indexCast v49
  ![1, 0, v20011.toNat]
def k0_off140 (k0_t1 : Fin k0_t1_loop.trips) : Fin 3 → Nat :=
  let c1_8872 : Index := 1#32
  let c0_8873 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20023 : Index := Scalar.indexCast v49
  ![1, 0, v20023.toNat]
def k0_off141 (k0_t1 : Fin k0_t1_loop.trips) : Fin 3 → Nat :=
  let c2_8883 : Index := 2#32
  let c0_8884 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20037 : Index := Scalar.indexCast v49
  ![2, 0, v20037.toNat]
def k0_off142 (k0_t1 : Fin k0_t1_loop.trips) : Fin 3 → Nat :=
  let c2_8890 : Index := 2#32
  let c0_8891 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20049 : Index := Scalar.indexCast v49
  ![2, 0, v20049.toNat]
def k0_off143 (k0_t1 : Fin k0_t1_loop.trips) : Fin 3 → Nat :=
  let c3_8902 : Index := 3#32
  let c0_8903 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20063 : Index := Scalar.indexCast v49
  ![3, 0, v20063.toNat]
def k0_off144 (k0_t1 : Fin k0_t1_loop.trips) : Fin 3 → Nat :=
  let c3_8909 : Index := 3#32
  let c0_8910 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20075 : Index := Scalar.indexCast v49
  ![3, 0, v20075.toNat]
def k0_off145 (k0_t1 : Fin k0_t1_loop.trips) : Fin 3 → Nat :=
  let c4_8921 : Index := 4#32
  let c0_8922 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20089 : Index := Scalar.indexCast v49
  ![4, 0, v20089.toNat]
def k0_off146 (k0_t1 : Fin k0_t1_loop.trips) : Fin 3 → Nat :=
  let c4_8928 : Index := 4#32
  let c0_8929 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20101 : Index := Scalar.indexCast v49
  ![4, 0, v20101.toNat]
def k0_off147 (k0_t1 : Fin k0_t1_loop.trips) : Fin 3 → Nat :=
  let c5_8939 : Index := 5#32
  let c0_8940 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20115 : Index := Scalar.indexCast v49
  ![5, 0, v20115.toNat]
def k0_off148 (k0_t1 : Fin k0_t1_loop.trips) : Fin 3 → Nat :=
  let c5_8946 : Index := 5#32
  let c0_8947 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20127 : Index := Scalar.indexCast v49
  ![5, 0, v20127.toNat]
def k0_off149 (k0_t1 : Fin k0_t1_loop.trips) : Fin 3 → Nat :=
  let c6_8957 : Index := 6#32
  let c0_8958 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20141 : Index := Scalar.indexCast v49
  ![6, 0, v20141.toNat]
def k0_off150 (k0_t1 : Fin k0_t1_loop.trips) : Fin 3 → Nat :=
  let c6_8964 : Index := 6#32
  let c0_8965 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20153 : Index := Scalar.indexCast v49
  ![6, 0, v20153.toNat]
def k0_off151 (k0_t1 : Fin k0_t1_loop.trips) : Fin 3 → Nat :=
  let c7_8975 : Index := 7#32
  let c0_8976 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20167 : Index := Scalar.indexCast v49
  ![7, 0, v20167.toNat]
def k0_off152 (k0_t1 : Fin k0_t1_loop.trips) : Fin 3 → Nat :=
  let c7_8982 : Index := 7#32
  let c0_8983 : Index := 0#32
  let c0_i32 : BitVec 32 := 0#32
  let c1_i32 : BitVec 32 := 1#32
  let arg22 : BitVec 32 := Scf.iv c0_i32 c1_i32 k0_t1
  let c128_i32 : BitVec 32 := 128#32
  let v48 : BitVec 32 := Scalar.muli arg22 c128_i32
  let v49 : BitVec 32 := v48
  let v20179 : Index := Scalar.indexCast v49
  ![7, 0, v20179.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x64x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x64x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel2.lean ====
abbrev S8x2048x1024 : Shape := ⟨3, ![8, 2048, 1024]⟩
abbrev S8x6144 : Shape := ⟨2, ![8, 6144]⟩
abbrev S1024 : Shape := ⟨1, ![1024]⟩
abbrev S1024x6144 : Shape := ⟨2, ![1024, 6144]⟩
abbrev S31x1024 : Shape := ⟨2, ![31, 1024]⟩
abbrev S1024x1024 : Shape := ⟨2, ![1024, 1024]⟩
abbrev S8x128x128 : Shape := ⟨3, ![8, 128, 128]⟩
abbrev S8x128 : Shape := ⟨2, ![8, 128]⟩
abbrev S8x6x1024 : Shape := ⟨3, ![8, 6, 1024]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S1x256x1024 : Shape := ⟨3, ![1, 256, 1024]⟩
abbrev S1x6x1024 : Shape := ⟨3, ![1, 6, 1024]⟩
abbrev S296x1024 : Shape := ⟨2, ![296, 1024]⟩
abbrev S7x288x1024 : Shape := ⟨3, ![7, 288, 1024]⟩
abbrev S256x1024 : Shape := ⟨2, ![256, 1024]⟩
abbrev S32x1024 : Shape := ⟨2, ![32, 1024]⟩
abbrev S8x1024 : Shape := ⟨2, ![8, 1024]⟩
abbrev S1x1x1024 : Shape := ⟨3, ![1, 1, 1024]⟩
abbrev S256 : Shape := ⟨1, ![256]⟩
abbrev S256x1 : Shape := ⟨2, ![256, 1]⟩
abbrev S288x1024 : Shape := ⟨2, ![288, 1024]⟩
abbrev S1x288x1024 : Shape := ⟨3, ![1, 288, 1024]⟩
abbrev S1x32x1024 : Shape := ⟨3, ![1, 32, 1024]⟩
abbrev S32 : Shape := ⟨1, ![32]⟩
abbrev S32x1 : Shape := ⟨2, ![32, 1]⟩
abbrev S128x128 : Shape := ⟨2, ![128, 128]⟩
abbrev S1x128x128 : Shape := ⟨3, ![1, 128, 128]⟩

abbrev nBuf : Space → Nat
  | .hbm => 30
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x6144, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S8x128x128, .f32⟩
  | .hbm, ⟨12, _⟩ => ⟨S8x128, .f32⟩
  | .hbm, ⟨13, _⟩ => ⟨S1024x1024, .f32⟩
  | .hbm, ⟨14, _⟩ => ⟨S1024x1024, .f32⟩
  | .hbm, ⟨15, _⟩ => ⟨S8x6x1024, .f32⟩
  | .hbm, ⟨16, _⟩ => ⟨S128x8, .f32⟩
  | .hbm, ⟨17, _⟩ => ⟨S128x8x128, .f32⟩
  | .hbm, ⟨18, _⟩ => ⟨S128x1024, .f32⟩
  | .hbm, ⟨19, _⟩ => ⟨S1024x6144, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x6144, .bf16⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S8x128x128, .f32⟩
  | .local _ .vmem, ⟨14, _⟩ => ⟨S128x1024, .f32⟩
  | .local _ .vmem, ⟨15, _⟩ => ⟨S1024x1024, .bf16⟩
  | .local _ .vmem, ⟨16, _⟩ => ⟨S1024x1024, .bf16⟩
  | .local _ .vmem, ⟨17, _⟩ => ⟨S1x256x1024, .f32⟩
  | .local _ .vmem, ⟨18, _⟩ => ⟨S1x256x1024, .f32⟩
  | .local _ .vmem, ⟨19, _⟩ => ⟨S296x1024, .f32⟩
  | .local _ .vmem, ⟨20, _⟩ => ⟨S7x288x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8x2048x1024 : Shape := ⟨3, ![8, 2048, 1024]⟩
abbrev S8x6144 : Shape := ⟨2, ![8, 6144]⟩
abbrev S1024 : Shape := ⟨1, ![1024]⟩
abbrev S1024x6144 : Shape := ⟨2, ![1024, 6144]⟩
abbrev S31x1024 : Shape := ⟨2, ![31, 1024]⟩
abbrev S1024x1024 : Shape := ⟨2, ![1024, 1024]⟩
abbrev S8x128x128 : Shape := ⟨3, ![8, 128, 128]⟩
abbrev S8x128 : Shape := ⟨2, ![8, 128]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x6144 : Shape := ⟨3, ![8, 2048, 6144]⟩
abbrev S8x2078x1024 : Shape := ⟨3, ![8, 2078, 1024]⟩
abbrev S1x1024 : Shape := ⟨2, ![1, 1024]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x16x128x8x128 : Shape := ⟨5, ![8, 16, 128, 8, 128]⟩
abbrev S8x8x16x128x128 : Shape := ⟨5, ![8, 8, 16, 128, 128]⟩
abbrev S128x8 : Shape := ⟨2, ![128, 8]⟩
abbrev S1x1x128x8x1 : Shape := ⟨5, ![1, 1, 128, 8, 1]⟩

abbrev nBuf : Space → Nat
  | .hbm => 419
  | .vmem => 0
  | .smem => 0
  | _ => 0

abbrev hbmTy0_0 (i : Nat) : BufTy := match i % 128 with
  | 0 => ⟨S8x2048x1024, .f32⟩
  | 1 => ⟨S8x6144, .f32⟩
  | 2 => ⟨S1024, .f32⟩
  | 3 => ⟨S1024x6144, .f32⟩
  | 4 => ⟨S31x1024, .f32⟩
  | 5 => ⟨S1024, .f32⟩
  | 6 => ⟨S1024, .f32⟩
  | 7 => ⟨S1024, .f32⟩
  | 8 => ⟨S1024x1024, .f32⟩
  | 9 => ⟨S1024, .f32⟩
  | 10 => ⟨S1024, .f32⟩
  | 11 => ⟨S8x128x128, .f32⟩
  | 12 => ⟨S8x128, .f32⟩
  | 13 => ⟨S1024x1024, .f32⟩
  | 14 => ⟨S1024x1024, .f32⟩
  | 15 => ⟨S8x1024, .f32⟩
  | 16 => ⟨S8x1024, .f32⟩
  | 17 => ⟨S8x1024, .f32⟩
  | 18 => ⟨S8x1024, .f32⟩
  | 19 => ⟨S8x1024, .f32⟩
  | 20 => ⟨S8x1024, .f32⟩
  | 21 => ⟨S8x2048x1024, .f32⟩
  | 22 => ⟨S_, .f32⟩
  | 23 => ⟨S8x2048, .f32⟩
  | 24 => ⟨S8x2048x1, .f32⟩
  | 25 => ⟨S_, .f32⟩
  | 26 => ⟨S8x2048x1, .f32⟩
  | 27 => ⟨S8x2048x1, .f32⟩
  | 28 => ⟨S_, .f32⟩
  | 29 => ⟨S8x2048x1, .f32⟩
  | 30 => ⟨S8x2048x1, .f32⟩
  | 31 => ⟨S8x2048x1, .f32⟩
  | 32 => ⟨S8x2048x1024, .f32⟩
  | 33 => ⟨S8x2048x1024, .f32⟩
  | 34 => ⟨S1x1x1024, .f32⟩
  | 35 => ⟨S8x2048x1024, .f32⟩
  | 36 => ⟨S8x2048x1024, .f32⟩
  | 37 => ⟨S8x1x1024, .f32⟩
  | 38 => ⟨S_, .f32⟩
  | 39 => ⟨S8x1x1024, .f32⟩
  | 40 => ⟨S8x1x1024, .f32⟩
  | 41 => ⟨S8x2048x1024, .f32⟩
  | 42 => ⟨S8x2048x1024, .f32⟩
  | 43 => ⟨S8x1x1024, .f32⟩
  | 44 => ⟨S8x2048x1024, .f32⟩
  | 45 => ⟨S8x2048x1024, .f32⟩
  | 46 => ⟨S8x2048x6144, .f32⟩
  | 47 => ⟨S8x2048x1024, .f32⟩
  | 48 => ⟨S8x2048x1024, .f32⟩
  | 49 => ⟨S8x2048x1024, .f32⟩
  | 50 => ⟨S8x2048x1024, .f32⟩
  | 51 => ⟨S8x2048x1024, .f32⟩
  | 52 => ⟨S8x2048x1024, .f32⟩
  | 53 => ⟨S8x2048x1024, .f32⟩
  | 54 => ⟨S8x2048x1024, .f32⟩
  | 55 => ⟨S_, .f32⟩
  | 56 => ⟨S8x2048x1024, .f32⟩
  | 57 => ⟨S8x2048x1024, .f32⟩
  | 58 => ⟨S_, .f32⟩
  | 59 => ⟨S8x2048x1024, .f32⟩
  | 60 => ⟨S8x2048x1024, .f32⟩
  | 61 => ⟨S8x2048x1024, .f32⟩
  | 62 => ⟨S_, .i32⟩
  | 63 => ⟨S_, .f32⟩
  | 64 => ⟨S8x2078x1024, .f32⟩
  | 65 => ⟨S8x2048x1024, .f32⟩
  | 66 => ⟨S1x1024, .f32⟩
  | 67 => ⟨S1024, .f32⟩
  | 68 => ⟨S1x1x1024, .f32⟩
  | 69 => ⟨S8x2048x1024, .f32⟩
  | 70 => ⟨S8x2048x1024, .f32⟩
  | 71 => ⟨S_, .f32⟩
  | 72 => ⟨S8x2048x1024, .f32⟩
  | 73 => ⟨S8x2048x1024, .f32⟩
  | 74 => ⟨S8x2048x1024, .f32⟩
  | 75 => ⟨S1x1024, .f32⟩
  | 76 => ⟨S1024, .f32⟩
  | 77 => ⟨S1x1x1024, .f32⟩
  | 78 => ⟨S8x2048x1024, .f32⟩
  | 79 => ⟨S8x2048x1024, .f32⟩
  | 80 => ⟨S8x2048x1024, .f32⟩
  | 81 => ⟨S8x2048x1024, .f32⟩
  | 82 => ⟨S1x1024, .f32⟩
  | 83 => ⟨S1024, .f32⟩
  | 84 => ⟨S1x1x1024, .f32⟩
  | 85 => ⟨S8x2048x1024, .f32⟩
  | 86 => ⟨S8x2048x1024, .f32⟩
  | 87 => ⟨S8x2048x1024, .f32⟩
  | 88 => ⟨S8x2048x1024, .f32⟩
  | 89 => ⟨S1x1024, .f32⟩
  | 90 => ⟨S1024, .f32⟩
  | 91 => ⟨S1x1x1024, .f32⟩
  | 92 => ⟨S8x2048x1024, .f32⟩
  | 93 => ⟨S8x2048x1024, .f32⟩
  | 94 => ⟨S8x2048x1024, .f32⟩
  | 95 => ⟨S8x2048x1024, .f32⟩
  | 96 => ⟨S1x1024, .f32⟩
  | 97 => ⟨S1024, .f32⟩
  | 98 => ⟨S1x1x1024, .f32⟩
  | 99 => ⟨S8x2048x1024, .f32⟩
  | 100 => ⟨S8x2048x1024, .f32⟩
  | 101 => ⟨S8x2048x1024, .f32⟩
  | 102 => ⟨S8x2048x1024, .f32⟩
  | 103 => ⟨S1x1024, .f32⟩
  | 104 => ⟨S1024, .f32⟩
  | 105 => ⟨S1x1x1024, .f32⟩
  | 106 => ⟨S8x2048x1024, .f32⟩
  | 107 => ⟨S8x2048x1024, .f32⟩
  | 108 => ⟨S8x2048x1024, .f32⟩
  | 109 => ⟨S8x2048x1024, .f32⟩
  | 110 => ⟨S1x1024, .f32⟩
  | 111 => ⟨S1024, .f32⟩
  | 112 => ⟨S1x1x1024, .f32⟩
  | 113 => ⟨S8x2048x1024, .f32⟩
  | 114 => ⟨S8x2048x1024, .f32⟩
  | 115 => ⟨S8x2048x1024, .f32⟩
  | 116 => ⟨S8x2048x1024, .f32⟩
  | 117 => ⟨S1x1024, .f32⟩
  | 118 => ⟨S1024, .f32⟩
  | 119 => ⟨S1x1x1024, .f32⟩
  | 120 => ⟨S8x2048x1024, .f32⟩
  | 121 => ⟨S8x2048x1024, .f32⟩
  | 122 => ⟨S8x2048x1024, .f32⟩
  | 123 => ⟨S8x2048x1024, .f32⟩
  | 124 => ⟨S1x1024, .f32⟩
  | 125 => ⟨S1024, .f32⟩
  | 126 => ⟨S1x1x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S1x1024, .f32⟩
  | 4 => ⟨S1024, .f32⟩
  | 5 => ⟨S1x1x1024, .f32⟩
  | 6 => ⟨S8x2048x1024, .f32⟩
  | 7 => ⟨S8x2048x1024, .f32⟩
  | 8 => ⟨S8x2048x1024, .f32⟩
  | 9 => ⟨S8x2048x1024, .f32⟩
  | 10 => ⟨S1x1024, .f32⟩
  | 11 => ⟨S1024, .f32⟩
  | 12 => ⟨S1x1x1024, .f32⟩
  | 13 => ⟨S8x2048x1024, .f32⟩
  | 14 => ⟨S8x2048x1024, .f32⟩
  | 15 => ⟨S8x2048x1024, .f32⟩
  | 16 => ⟨S8x2048x1024, .f32⟩
  | 17 => ⟨S1x1024, .f32⟩
  | 18 => ⟨S1024, .f32⟩
  | 19 => ⟨S1x1x1024, .f32⟩
  | 20 => ⟨S8x2048x1024, .f32⟩
  | 21 => ⟨S8x2048x1024, .f32⟩
  | 22 => ⟨S8x2048x1024, .f32⟩
  | 23 => ⟨S8x2048x1024, .f32⟩
  | 24 => ⟨S1x1024, .f32⟩
  | 25 => ⟨S1024, .f32⟩
  | 26 => ⟨S1x1x1024, .f32⟩
  | 27 => ⟨S8x2048x1024, .f32⟩
  | 28 => ⟨S8x2048x1024, .f32⟩
  | 29 => ⟨S8x2048x1024, .f32⟩
  | 30 => ⟨S8x2048x1024, .f32⟩
  | 31 => ⟨S1x1024, .f32⟩
  | 32 => ⟨S1024, .f32⟩
  | 33 => ⟨S1x1x1024, .f32⟩
  | 34 => ⟨S8x2048x1024, .f32⟩
  | 35 => ⟨S8x2048x1024, .f32⟩
  | 36 => ⟨S8x2048x1024, .f32⟩
  | 37 => ⟨S8x2048x1024, .f32⟩
  | 38 => ⟨S1x1024, .f32⟩
  | 39 => ⟨S1024, .f32⟩
  | 40 => ⟨S1x1x1024, .f32⟩
  | 41 => ⟨S8x2048x1024, .f32⟩
  | 42 => ⟨S8x2048x1024, .f32⟩
  | 43 => ⟨S8x2048x1024, .f32⟩
  | 44 => ⟨S8x2048x1024, .f32⟩
  | 45 => ⟨S1x1024, .f32⟩
  | 46 => ⟨S1024, .f32⟩
  | 47 => ⟨S1x1x1024, .f32⟩
  | 48 => ⟨S8x2048x1024, .f32⟩
  | 49 => ⟨S8x2048x1024, .f32⟩
  | 50 => ⟨S8x2048x1024, .f32⟩
  | 51 => ⟨S8x2048x1024, .f32⟩
  | 52 => ⟨S1x1024, .f32⟩
  | 53 => ⟨S1024, .f32⟩
  | 54 => ⟨S1x1x1024, .f32⟩
  | 55 => ⟨S8x2048x1024, .f32⟩
  | 56 => ⟨S8x2048x1024, .f32⟩
  | 57 => ⟨S8x2048x1024, .f32⟩
  | 58 => ⟨S8x2048x1024, .f32⟩
  | 59 => ⟨S1x1024, .f32⟩
  | 60 => ⟨S1024, .f32⟩
  | 61 => ⟨S1x1x1024, .f32⟩
  | 62 => ⟨S8x2048x1024, .f32⟩
  | 63 => ⟨S8x2048x1024, .f32⟩
  | 64 => ⟨S8x2048x1024, .f32⟩
  | 65 => ⟨S8x2048x1024, .f32⟩
  | 66 => ⟨S1x1024, .f32⟩
  | 67 => ⟨S1024, .f32⟩
  | 68 => ⟨S1x1x1024, .f32⟩
  | 69 => ⟨S8x2048x1024, .f32⟩
  | 70 => ⟨S8x2048x1024, .f32⟩
  | 71 => ⟨S8x2048x1024, .f32⟩
  | 72 => ⟨S8x2048x1024, .f32⟩
  | 73 => ⟨S1x1024, .f32⟩
  | 74 => ⟨S1024, .f32⟩
  | 75 => ⟨S1x1x1024, .f32⟩
  | 76 => ⟨S8x2048x1024, .f32⟩
  | 77 => ⟨S8x2048x1024, .f32⟩
  | 78 => ⟨S8x2048x1024, .f32⟩
  | 79 => ⟨S8x2048x1024, .f32⟩
  | 80 => ⟨S1x1024, .f32⟩
  | 81 => ⟨S1024, .f32⟩
  | 82 => ⟨S1x1x1024, .f32⟩
  | 83 => ⟨S8x2048x1024, .f32⟩
  | 84 => ⟨S8x2048x1024, .f32⟩
  | 85 => ⟨S8x2048x1024, .f32⟩
  | 86 => ⟨S8x2048x1024, .f32⟩
  | 87 => ⟨S1x1024, .f32⟩
  | 88 => ⟨S1024, .f32⟩
  | 89 => ⟨S1x1x1024, .f32⟩
  | 90 => ⟨S8x2048x1024, .f32⟩
  | 91 => ⟨S8x2048x1024, .f32⟩
  | 92 => ⟨S8x2048x1024, .f32⟩
  | 93 => ⟨S8x2048x1024, .f32⟩
  | 94 => ⟨S1x1024, .f32⟩
  | 95 => ⟨S1024, .f32⟩
  | 96 => ⟨S1x1x1024, .f32⟩
  | 97 => ⟨S8x2048x1024, .f32⟩
  | 98 => ⟨S8x2048x1024, .f32⟩
  | 99 => ⟨S8x2048x1024, .f32⟩
  | 100 => ⟨S8x2048x1024, .f32⟩
  | 101 => ⟨S1x1024, .f32⟩
  | 102 => ⟨S1024, .f32⟩
  | 103 => ⟨S1x1x1024, .f32⟩
  | 104 => ⟨S8x2048x1024, .f32⟩
  | 105 => ⟨S8x2048x1024, .f32⟩
  | 106 => ⟨S8x2048x1024, .f32⟩
  | 107 => ⟨S8x2048x1024, .f32⟩
  | 108 => ⟨S1x1024, .f32⟩
  | 109 => ⟨S1024, .f32⟩
  | 110 => ⟨S1x1x1024, .f32⟩
  | 111 => ⟨S8x2048x1024, .f32⟩
  | 112 => ⟨S8x2048x1024, .f32⟩
  | 113 => ⟨S8x2048x1024, .f32⟩
  | 114 => ⟨S8x2048x1024, .f32⟩
  | 115 => ⟨S1x1024, .f32⟩
  | 116 => ⟨S1024, .f32⟩
  | 117 => ⟨S1x1x1024, .f32⟩
  | 118 => ⟨S8x2048x1024, .f32⟩
  | 119 => ⟨S8x2048x1024, .f32⟩
  | 120 => ⟨S8x2048x1024, .f32⟩
  | 121 => ⟨S8x2048x1024, .f32⟩
  | 122 => ⟨S1x1024, .f32⟩
  | 123 => ⟨S1024, .f32⟩
  | 124 => ⟨S1x1x1024, .f32⟩
  | 125 => ⟨S8x2048x1024, .f32⟩
  | 126 => ⟨S8x2048x1024, .f32⟩
  | 127 => ⟨S8x2048x1024, .f32⟩
  | _ => ⟨S8x2048x1024, .f32⟩

abbrev hbmTy0_2 (i : Nat) : BufTy := match i % 128 with
  | 0 => ⟨S8x2048x1024, .f32⟩
  | 1 => ⟨S1x1024, .f32⟩
  | 2 => ⟨S1024, .f32⟩
  | 3 => ⟨S1x1x1024, .f32⟩
  | 4 => ⟨S8x2048x1024, .f32⟩
  | 5 => ⟨S8x2048x1024, .f32⟩
  | 6 => ⟨S8x2048x1024, .f32⟩
  | 7 => ⟨S8x2048x1024, .f32⟩
  | 8 => ⟨S1x1024, .f32⟩
  | 9 => ⟨S1024, .f32⟩
  | 10 => ⟨S1x1x1024, .f32⟩
  | 11 => ⟨S8x2048x1024, .f32⟩
  | 12 => ⟨S8x2048x1024, .f32⟩
  | 13 => ⟨S8x2048x1024, .f32⟩
  | 14 => ⟨S8x2048x1024, .f32⟩
  | 15 => ⟨S1x1024, .f32⟩
  | 16 => ⟨S1024, .f32⟩
  | 17 => ⟨S1x1x1024, .f32⟩
  | 18 => ⟨S8x2048x1024, .f32⟩
  | 19 => ⟨S8x2048x1024, .f32⟩
  | 20 => ⟨S8x2048x1024, .f32⟩
  | 21 => ⟨S8x2048x1024, .f32⟩
  | 22 => ⟨S1x1024, .f32⟩
  | 23 => ⟨S1024, .f32⟩
  | 24 => ⟨S1x1x1024, .f32⟩
  | 25 => ⟨S8x2048x1024, .f32⟩
  | 26 => ⟨S8x2048x1024, .f32⟩
  | 27 => ⟨S8x2048x1024, .f32⟩
  | 28 => ⟨S1x1x1024, .f32⟩
  | 29 => ⟨S8x2048x1024, .f32⟩
  | 30 => ⟨S8x2048x1024, .f32⟩
  | 31 => ⟨S_, .f32⟩
  | 32 => ⟨S8x2048, .f32⟩
  | 33 => ⟨S8x2048x1, .f32⟩
  | 34 => ⟨S_, .f32⟩
  | 35 => ⟨S8x2048x1, .f32⟩
  | 36 => ⟨S8x2048x1, .f32⟩
  | 37 => ⟨S8x2048x1024, .f32⟩
  | 38 => ⟨S8x2048x1024, .f32⟩
  | 39 => ⟨S8x2048x1024, .f32⟩
  | 40 => ⟨S_, .f32⟩
  | 41 => ⟨S8x2048, .f32⟩
  | 42 => ⟨S8x2048x1, .f32⟩
  | 43 => ⟨S_, .f32⟩
  | 44 => ⟨S8x2048x1, .f32⟩
  | 45 => ⟨S8x2048x1, .f32⟩
  | 46 => ⟨S8x2048x1024, .f32⟩
  | 47 => ⟨S8x2048x1024, .f32⟩
  | 48 => ⟨S_, .f32⟩
  | 49 => ⟨S8x2048x1, .f32⟩
  | 50 => ⟨S8x2048x1, .f32⟩
  | 51 => ⟨S8x2048x1, .f32⟩
  | 52 => ⟨S8x2048x1024, .f32⟩
  | 53 => ⟨S8x2048x1024, .f32⟩
  | 54 => ⟨S1x1x1024, .f32⟩
  | 55 => ⟨S8x2048x1024, .f32⟩
  | 56 => ⟨S8x2048x1024, .f32⟩
  | 57 => ⟨S1x1x1024, .f32⟩
  | 58 => ⟨S8x2048x1024, .f32⟩
  | 59 => ⟨S8x2048x1024, .f32⟩
  | 60 => ⟨S8x2048x1024, .f32⟩
  | 61 => ⟨S8x2048x1024, .f32⟩
  | 62 => ⟨S_, .f32⟩
  | 63 => ⟨S8x2048x1024, .f32⟩
  | 64 => ⟨S8x2048x1024, .f32⟩
  | 65 => ⟨S_, .f32⟩
  | 66 => ⟨S8x2048x1024, .f32⟩
  | 67 => ⟨S8x2048x1024, .f32⟩
  | 68 => ⟨S8x2048x1024, .f32⟩
  | 69 => ⟨S8x2048x1024, .f32⟩
  | 70 => ⟨S_, .f32⟩
  | 71 => ⟨S8x2048, .f32⟩
  | 72 => ⟨S8x2048x1, .f32⟩
  | 73 => ⟨S_, .f32⟩
  | 74 => ⟨S8x2048x1, .f32⟩
  | 75 => ⟨S8x2048x1, .f32⟩
  | 76 => ⟨S8x2048x1024, .f32⟩
  | 77 => ⟨S8x2048x1024, .f32⟩
  | 78 => ⟨S8x2048x1024, .f32⟩
  | 79 => ⟨S_, .f32⟩
  | 80 => ⟨S8x2048, .f32⟩
  | 81 => ⟨S8x2048x1, .f32⟩
  | 82 => ⟨S_, .f32⟩
  | 83 => ⟨S8x2048x1, .f32⟩
  | 84 => ⟨S8x2048x1, .f32⟩
  | 85 => ⟨S8x2048x1024, .f32⟩
  | 86 => ⟨S8x2048x1024, .f32⟩
  | 87 => ⟨S_, .f32⟩
  | 88 => ⟨S8x2048x1, .f32⟩
  | 89 => ⟨S8x2048x1, .f32⟩
  | 90 => ⟨S8x2048x1, .f32⟩
  | 91 => ⟨S8x2048x1024, .f32⟩
  | 92 => ⟨S8x2048x1024, .f32⟩
  | 93 => ⟨S1x1x1024, .f32⟩
  | 94 => ⟨S8x2048x1024, .f32⟩
  | 95 => ⟨S8x2048x1024, .f32⟩
  | 96 => ⟨S1x1x1024, .f32⟩
  | 97 => ⟨S8x2048x1024, .f32⟩
  | 98 => ⟨S8x2048x1024, .f32⟩
  | 99 => ⟨S128, .i32⟩
  | 100 => ⟨S_, .i32⟩
  | 101 => ⟨S_, .i32⟩
  | 102 => ⟨S128, .i32⟩
  | 103 => ⟨S128, .i32⟩
  | 104 => ⟨S128, .i32⟩
  | 105 => ⟨S_, .i32⟩
  | 106 => ⟨S128, .i32⟩
  | 107 => ⟨S128, .i1⟩
  | 108 => ⟨S128, .i32⟩
  | 109 => ⟨S128, .i32⟩
  | 110 => ⟨S_, .i32⟩
  | 111 => ⟨S128, .i32⟩
  | 112 => ⟨S128, .i1⟩
  | 113 => ⟨S128, .i1⟩
  | 114 => ⟨S_, .i32⟩
  | 115 => ⟨S128, .i32⟩
  | 116 => ⟨S128, .i32⟩
  | 117 => ⟨S128, .i32⟩
  | 118 => ⟨S1x128, .i32⟩
  | 119 => ⟨S128x1, .i32⟩
  | 120 => ⟨S128x128, .i32⟩
  | 121 => ⟨S128x128, .i32⟩
  | 122 => ⟨S128x128, .i1⟩
  | 123 => ⟨S1x128x128, .i1⟩
  | 124 => ⟨S_, .f32⟩
  | 125 => ⟨S_, .f32⟩
  | 126 => ⟨S8x128x128, .i1⟩
  | 127 => ⟨S8x128x128, .f32⟩
  | _ => ⟨S8x2048x1024, .f32⟩

abbrev hbmTy0_3 (i : Nat) : BufTy := match i % 128 with
  | 0 => ⟨S8x128x128, .f32⟩
  | 1 => ⟨S8x16x128x8x128, .f32⟩
  | 2 => ⟨S8x8x16x128x128, .f32⟩
  | 3 => ⟨S8x16x128x8x128, .f32⟩
  | 4 => ⟨S128x8, .f32⟩
  | 5 => ⟨S1x1x128x8x1, .f32⟩
  | 6 => ⟨S8x16x128x8x128, .f32⟩
  | 7 => ⟨S8x16x128x8x128, .f32⟩
  | 8 => ⟨S8x2048x1024, .f32⟩
  | 9 => ⟨S8x2048x1024, .f32⟩
  | 10 => ⟨S8x2048x1024, .f32⟩
  | 11 => ⟨S8x2048x1024, .f32⟩
  | 12 => ⟨S8x2048x1024, .f32⟩
  | 13 => ⟨S_, .f32⟩
  | 14 => ⟨S8x2048x1024, .f32⟩
  | 15 => ⟨S8x2048x1024, .f32⟩
  | 16 => ⟨S_, .f32⟩
  | 17 => ⟨S8x2048x1024, .f32⟩
  | 18 => ⟨S8x2048x1024, .f32⟩
  | 19 => ⟨S8x2048x1024, .f32⟩
  | 20 => ⟨S8x2048x1024, .f32⟩
  | 21 => ⟨S8x2048x1024, .f32⟩
  | 22 => ⟨S_, .f32⟩
  | 23 => ⟨S8x2048x1024, .f32⟩
  | 24 => ⟨S8x2048x1024, .f32⟩
  | 25 => ⟨S_, .f32⟩
  | 26 => ⟨S8x2048x1024, .f32⟩
  | 27 => ⟨S8x2048x1024, .f32⟩
  | 28 => ⟨S8x2048x1024, .f32⟩
  | 29 => ⟨S8x2048x1024, .f32⟩
  | 30 => ⟨S8x1x1024, .f32⟩
  | 31 => ⟨S8x2048x1024, .f32⟩
  | 32 => ⟨S8x2048x1024, .f32⟩
  | 33 => ⟨S8x2048x1024, .f32⟩
  | 34 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c : Ref sig .tc := ⟨.hbm, 62, rfl⟩
abbrev main_call0_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_cst_6 : Ref sig .tc := ⟨.hbm, 287, rfl⟩
abbrev main_v263 : Ref sig .tc := ⟨.hbm, 288, rfl⟩
abbrev main_v264 : Ref sig .tc := ⟨.hbm, 289, rfl⟩
abbrev main_cst_7 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_cst_8 : Ref sig .tc := ⟨.hbm, 296, rfl⟩
abbrev main_v270 : Ref sig .tc := ⟨.hbm, 297, rfl⟩
abbrev main_v271 : Ref sig .tc := ⟨.hbm, 298, rfl⟩
abbrev main_cst_9 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_cst_10 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_cst_11 : Ref sig .tc := ⟨.hbm, 318, rfl⟩
abbrev main_v289 : Ref sig .tc := ⟨.hbm, 319, rfl⟩
abbrev main_v290 : Ref sig .tc := ⟨.hbm, 320, rfl⟩
abbrev main_cst_12 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_cst_13 : Ref sig .tc := ⟨.hbm, 326, rfl⟩
abbrev main_v295 : Ref sig .tc := ⟨.hbm, 327, rfl⟩
abbrev main_v296 : Ref sig .tc := ⟨.hbm, 328, rfl⟩
abbrev main_cst_14 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_cst_15 : Ref sig .tc := ⟨.hbm, 335, rfl⟩
abbrev main_v302 : Ref sig .tc := ⟨.hbm, 336, rfl⟩
abbrev main_v303 : Ref sig .tc := ⟨.hbm, 337, rfl⟩
abbrev main_cst_16 : Ref sig .tc := ⟨.hbm, 338, rfl⟩
abbrev main_v304 : Ref sig .tc := ⟨.hbm, 339, rfl⟩
abbrev main_v305 : Ref sig .tc := ⟨.hbm, 340, rfl⟩
abbrev main_v306 : Ref sig .tc := ⟨.hbm, 341, rfl⟩
abbrev main_v307 : Ref sig .tc := ⟨.hbm, 342, rfl⟩
abbrev main_cst_17 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩
abbrev main_v316 : Ref sig .tc := ⟨.hbm, 352, rfl⟩
abbrev main_v317 : Ref sig .tc := ⟨.hbm, 353, rfl⟩
abbrev main_v318 : Ref sig .tc := ⟨.hbm, 354, rfl⟩
abbrev main_v319 : Ref sig .tc := ⟨.hbm, 355, rfl⟩
abbrev main_c_18 : Ref sig .tc := ⟨.hbm, 356, rfl⟩
abbrev main_call1_v0 : Ref sig .tc := ⟨.hbm, 357, rfl⟩
abbrev main_call1_v1 : Ref sig .tc := ⟨.hbm, 358, rfl⟩
abbrev main_call1_v2 : Ref sig .tc := ⟨.hbm, 359, rfl⟩
abbrev main_call1_v3 : Ref sig .tc := ⟨.hbm, 360, rfl⟩
abbrev main_call1_v4 : Ref sig .tc := ⟨.hbm, 361, rfl⟩
abbrev main_call1_v5 : Ref sig .tc := ⟨.hbm, 362, rfl⟩
abbrev main_call1_v6 : Ref sig .tc := ⟨.hbm, 363, rfl⟩
abbrev main_call1_v7 : Ref sig .tc := ⟨.hbm, 364, rfl⟩
abbrev main_call1_v8 : Ref sig .tc := ⟨.hbm, 365, rfl⟩
abbrev main_call1_c : Ref sig .tc := ⟨.hbm, 366, rfl⟩
abbrev main_call1_v9 : Ref sig .tc := ⟨.hbm, 367, rfl⟩
abbrev main_call1_v10 : Ref sig .tc := ⟨.hbm, 368, rfl⟩
abbrev main_call1_v11 : Ref sig .tc := ⟨.hbm, 369, rfl⟩
abbrev main_call1_c_0 : Ref sig .tc := ⟨.hbm, 370, rfl⟩
abbrev main_call1_v12 : Ref sig .tc := ⟨.hbm, 371, rfl⟩
abbrev main_call1_v13 : Ref sig .tc := ⟨.hbm, 372, rfl⟩
abbrev main_v320 : Ref sig .tc := ⟨.hbm, 373, rfl⟩
abbrev main_v321 : Ref sig .tc := ⟨.hbm, 374, rfl⟩
abbrev main_v322 : Ref sig .tc := ⟨.hbm, 375, rfl⟩
abbrev main_v323 : Ref sig .tc := ⟨.hbm, 376, rfl⟩
abbrev main_v324 : Ref sig .tc := ⟨.hbm, 377, rfl⟩
abbrev main_v325 : Ref sig .tc := ⟨.hbm, 378, rfl⟩
abbrev main_v326 : Ref sig .tc := ⟨.hbm, 379, rfl⟩
abbrev main_cst_19 : Ref sig .tc := ⟨.hbm, 380, rfl⟩
abbrev main_call2_v0 : Ref sig .tc := ⟨.hbm, 381, rfl⟩
abbrev main_call2_v1 : Ref sig .tc := ⟨.hbm, 382, rfl⟩
abbrev main_call2_v2 : Ref sig .tc := ⟨.hbm, 383, rfl⟩
abbrev main_v327 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_v332 : Ref sig .tc := ⟨.hbm, 389, rfl⟩
abbrev main_v333 : Ref sig .tc := ⟨.hbm, 390, rfl⟩
abbrev main_v334 : Ref sig .tc := ⟨.hbm, 391, rfl⟩
abbrev main_v335 : Ref sig .tc := ⟨.hbm, 392, rfl⟩
abbrev main_v336 : Ref sig .tc := ⟨.hbm, 393, rfl⟩
abbrev main_v337 : Ref sig .tc := ⟨.hbm, 394, rfl⟩
abbrev main_v338 : Ref sig .tc := ⟨.hbm, 395, rfl⟩
abbrev main_v339 : Ref sig .tc := ⟨.hbm, 396, rfl⟩
abbrev main_cst_20 : Ref sig .tc := ⟨.hbm, 397, rfl⟩
abbrev main_v340 : Ref sig .tc := ⟨.hbm, 398, rfl⟩
abbrev main_v341 : Ref sig .tc := ⟨.hbm, 399, rfl⟩
abbrev main_cst_21 : Ref sig .tc := ⟨.hbm, 400, rfl⟩
abbrev main_v342 : Ref sig .tc := ⟨.hbm, 401, rfl⟩
abbrev main_v343 : Ref sig .tc := ⟨.hbm, 402, rfl⟩
abbrev main_v344 : Ref sig .tc := ⟨.hbm, 403, rfl⟩
abbrev main_v345 : Ref sig .tc := ⟨.hbm, 404, rfl⟩
abbrev main_v346 : Ref sig .tc := ⟨.hbm, 405, rfl⟩
abbrev main_cst_22 : Ref sig .tc := ⟨.hbm, 406, rfl⟩
abbrev main_v347 : Ref sig .tc := ⟨.hbm, 407, rfl⟩
abbrev main_v348 : Ref sig .tc := ⟨.hbm, 408, rfl⟩
abbrev main_cst_23 : Ref sig .tc := ⟨.hbm, 409, rfl⟩
abbrev main_v349 : Ref sig .tc := ⟨.hbm, 410, rfl⟩
abbrev main_v350 : Ref sig .tc := ⟨.hbm, 411, rfl⟩
abbrev main_v351 : Ref sig .tc := ⟨.hbm, 412, rfl⟩
abbrev main_v352 : Ref sig .tc := ⟨.hbm, 413, rfl⟩
abbrev main_v353 : Ref sig .tc := ⟨.hbm, 414, rfl⟩
abbrev main_v354 : Ref sig .tc := ⟨.hbm, 415, rfl⟩
abbrev main_v355 : Ref sig .tc := ⟨.hbm, 416, rfl⟩
abbrev main_v356 : Ref sig .tc := ⟨.hbm, 417, rfl⟩
abbrev main_v357 : Ref sig .tc := ⟨.hbm, 418, rfl⟩

abbrev nD : Nat := 1
abbrev τ : Topo := Topo.v7x

variable {F : FTy → Type} [FloatOps F]
-- ==== Kernel3.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Route.Safe.lean ====
/- Programs that only load from and store to buffers held whole, at whatever contents.

   `Safe I p` says that `p`, started with the holdings `I`, runs to its end and gives `I` back. Where `I` holds each
   buffer at SOME contents, a load and a store keep it, so a program built of loads, stores, loops and conditionals over
   such buffers is safe, however long it is and whatever it computes. -/
module

public import Idealize.ShloMosaic.Lib.Scf
public import Idealize.ShloMosaic.Lib.Tactic
public import Idealize.ShloMosaic.Lib.Pipeline.FrameBody

@[expose] public section

noncomputable section

namespace Cert.Route

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ₀ : Labels}

local notation "𝕄" => MT nD τ sig Unit Val ℕ (UR sig nD τ) ℕ

/-- Core `c` holds the memref's elements, at some contents. -/
def Held (c : Dev nD) {sp : Space} {s : Shape} {e : EltTy} (m : Memref sig .tc sp s e) : sProp 𝕄 :=
  iprop(∃ f, (m.view.loc (c : Thread nD τ) ↦[m.view.set]{fullShare} f))

/-- The holdings `I` hold the memref `m` at some contents: they can lend it out, and are whole again once it is back. -/
def Lends (c : Dev nD) (I : sProp 𝕄) {sp : Space} {s : Shape} {e : EltTy} (m : Memref sig .tc sp s e) : Prop :=
  I ⊢ iprop(Held c m ∗ (Held c m -∗ I))

/-- Started with the holdings `I`, the program runs to its end and gives `I` back. -/
def Safe (defs₀ : Defs nD τ sig Val Λ₀) (c : Dev nD) (I : sProp 𝕄) {α : Type} (p : Prog (TpuEff nD τ sig Val Λ₀ .tc) α) : Prop :=
  I ⊢ wp frame (wpE (Ix := Unit) (Name := ℕ) (U := UR sig nD τ) (Lvl := ℕ) defs₀ Variants.none (c : Thread nD τ) none) Set.univ p (fun _ => I)

variable {defs₀ : Defs nD τ sig Val Λ₀} {c : Dev nD}

/-- A program that does nothing is safe. -/
theorem Safe.pure {I : sProp 𝕄} {α : Type} (a : α) : Safe defs₀ c I (Pure.pure a : Prog _ α) := by
  unfold Safe
  rw [show (Pure.pure a : Prog (TpuEff nD τ sig Val Λ₀ .tc) α) = .ret a from rfl, wp_ret]
  iintro H
  imodintro
  iexact H

/-- Safe programs run one after the other are safe. -/
theorem Safe.bind {I : sProp 𝕄} {α β : Type} {p : Prog (TpuEff nD τ sig Val Λ₀ .tc) α} {k : α → Prog (TpuEff nD τ sig Val Λ₀ .tc) β}
    (hp : Safe defs₀ c I p) (hk : ∀ a, Safe defs₀ c I (k a)) : Safe defs₀ c I (p >>= k) := by
  unfold Safe
  rw [wp_bind]
  exact hp.trans (wp_mono _ _ _ hk)

/-- A load through a memref the holdings lend is safe. -/
theorem Safe.load {I : sProp 𝕄} {cs : CoreSpace} {s : Shape} {e : EltTy} {m : Memref sig .tc cs s e} {r : LoadRect s} {hl : m.view.LoadsAt r}
    (hm : Lends c I m) : Safe defs₀ c I (Prog.lift (.load m r hl)) := by
  unfold Safe Prog.lift
  refine hm.trans ?_
  unfold Held
  iintro ⟨⟨%f, H⟩, HI⟩
  iapply (wp_load Variants.none (c : Thread nD τ) none Set.univ (View.setOn_subset_set _ _)) $$ H
  iintro H
  rw [wp_ret]
  imodintro
  iapply HI
  iexists f
  iexact H

/-- A store through a memref the holdings lend is safe. -/
theorem Safe.store {I : sProp 𝕄} {cs : CoreSpace} {s : Shape} {e : EltTy} {m : Memref sig .tc cs s e} {r : Rect s} {w : r.shape.Idx → Val e}
    {Mk : Finset r.shape.Idx} {hx : (m.access r).Stores Mk} {hM : Mk = Finset.univ ∨ ∀ a, r.stride a = 1}
    (hm : Lends c I m) : Safe defs₀ c I (Prog.lift (.store m r w Mk hx hM)) := by
  unfold Safe Prog.lift
  refine hm.trans ?_
  unfold Held
  iintro ⟨⟨%f, H⟩, HI⟩
  iapply (wp_store (m := m) (r := r) (w := w) (Mk := Mk) (f := f) Variants.none (c : Thread nD τ) none Set.univ
    ((View.setOn_subset_set _ _).trans (View.set_slice_subset _ _) : (m.access r).setOn Mk ⊆ m.view.set)) $$ H
  iintro H
  rw [wp_ret]
  imodintro
  iapply HI
  iexists _
  iexact H

/-- A loop whose every trip is safe is safe. -/
theorem Safe.for {I : sProp 𝕄} {w : Nat} {σ : Type} {l : Scf.Loop w} {hok : l.OK} {init : σ}
    {body : Fin l.trips → σ → Prog (TpuEff nD τ sig Val Λ₀ .tc) σ} (hb : ∀ k a, Safe defs₀ c I (body k a)) :
    Safe defs₀ c I (Scf.Loop.for l hok init body) := by
  unfold Safe
  iintro H
  iapply (Scf.wp_for _ _ _ l.lb l.ub l.st hok init body (fun _ _ => I) (fun k a => hb k a))
  isplitl [H]
  · iexact H
  · iintro %a H
    iexact H

/-- A conditional both of whose branches are safe is safe. -/
theorem Safe.ite {I : sProp 𝕄} {α : Type} {P : Prop} [Decidable P] {p q : Prog (TpuEff nD τ sig Val Λ₀ .tc) α}
    (hp : Safe defs₀ c I p) (hq : Safe defs₀ c I q) : Safe defs₀ c I (if P then p else q) := by
  split
  · exact hp
  · exact hq

end Cert.Route

end
-- ==== Proof.Route.Body.lean ====
module

public import proofs.«01_k».proof.Kernel
public import proofs.«01_k».proof.Proof.Route.Safe

@[expose] public section

noncomputable section

namespace Cert.Route

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel

variable {F : FTy → Type} [BitOps F] [Facts]

local notation "𝕄" => MT nD τ sig Unit (Elt F) ℕ (UR sig nD τ) ℕ

set_option maxHeartbeats 400000000 in
/-- The kernel's body at one grid point is safe: every step of it loads from or stores to one of its memrefs, which the
    holdings lend. -/
theorem body_safe (c : Dev nD) (I : sProp 𝕄) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x1024x1024 .bf16) (harg5 : arg5.IsWhole) (arg6 : Memref sig .tc .vmem S1024x512 .bf16) (harg6 : arg6.IsWhole) (arg7 : Memref sig .tc .vmem S8x128x512 .i32) (harg7 : arg7.IsWhole) (arg8 : Memref sig .tc .vmem S8x128x512 .i32) (harg8 : arg8.IsWhole) (arg9 : Memref sig .tc .vmem S8x64x512 .i32) (harg9 : arg9.IsWhole) (arg10 : Memref sig .tc .vmem S8x64x512 .i32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole)
    (h1 : Lends c I arg1) (h2 : Lends c I arg2) (h3 : Lends c I arg3) (h4 : Lends c I arg4) (h5 : Lends c I arg5) (h6 : Lends c I arg6) (h7 : Lends c I arg7) (h8 : Lends c I arg8) (h9 : Lends c I arg9) (h10 : Lends c I arg10) (h11 : Lends c I arg11) (h12 : Lends c I arg12) (h13 : Lends c I arg13) (h14 : Lends c I arg14) (h15 : Lends c I arg15) (h16 : Lends c I arg16) (h17 : Lends c I arg17) (h18 : Lends c I arg18) (h19 : Lends c I arg19) (h20 : Lends c I arg20) (h21 : Lends c I arg21) :
    Safe defs₀ c I (cc0_route (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  repeat' first
    | with_reducible intro _
    | with_reducible exact Safe.pure _
    | with_reducible exact Safe.load (by assumption)
    | with_reducible exact Safe.store (by assumption)
    | with_reducible refine Safe.bind ?_ ?_
    | with_reducible refine Safe.for ?_
    | with_reducible refine Safe.ite ?_ ?_
    | refine Safe.bind ?_ ?_
    | refine Safe.ite ?_ ?_
    | refine Safe.for ?_
    | exact Safe.pure _
    | exact Safe.load (by assumption)
    | exact Safe.store (by assumption)

end Cert.Route

end
-- ==== Proof.Route.Frame.lean ====
/- The launch of the routing kernel: at every grid point its body is safe, so the launch ends, and every buffer that no
   window stages, the five arguments among them, is as the region found it. Nothing is said of what the windows hold. -/
module

public import proofs.«01_k».proof.Proof.Gen.Kernel.Frame
public import proofs.«01_k».proof.Proof.Route.Body

@[expose] public section

noncomputable section

namespace Cert.Route

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

section Holdings

variable {nD : Nat} {τ : Topo} {sig : RefSig} {Val : EltTy → Type}

local notation "𝕄" => MT nD τ sig Unit Val ℕ (UR sig nD τ) ℕ

/-- A separating conjunction lends what its first member is. -/
theorem Lends.head {c : Dev nD} {sp : Space} {s : Shape} {e : EltTy} {m : Memref sig .tc sp s e} {R : sProp 𝕄} :
    Lends c (iprop(Held c m ∗ R)) m := by
  unfold Lends
  iintro ⟨Hm, HR⟩
  isplitl [Hm]; · iexact Hm
  iintro Hm
  isplitl [Hm]; · iexact Hm
  iexact HR

/-- A separating conjunction lends what its second member lends. -/
theorem Lends.tail {c : Dev nD} {sp : Space} {s : Shape} {e : EltTy} {m : Memref sig .tc sp s e} {P R : sProp 𝕄}
    (h : Lends c R m) : Lends c (iprop(P ∗ R)) m := by
  unfold Lends at h ⊢
  iintro ⟨HP, HR⟩
  ihave HR := h $$ HR
  icases HR with ⟨Hm, HR⟩
  isplitl [Hm]; · iexact Hm
  iintro Hm
  isplitl [HP]; · iexact HP
  iapply HR
  iexact Hm

/-- A memref owned at some contents is held, -/
theorem held_of_owns {c : Dev nD} {sp : Space} {s : Shape} {e : EltTy} {m : Memref sig .tc sp s e} :
    (iprop(∃ X, owns (c : Thread nD τ) m fullShare X) : sProp 𝕄) ⊢ Held c m := by
  unfold owns Held
  iintro ⟨%X, %f, %hf, H⟩
  iexists f
  iexact H

/-- and a memref that is held is owned at some contents. -/
theorem owns_of_held {c : Dev nD} {sp : Space} {s : Shape} {e : EltTy} {m : Memref sig .tc sp s e} :
    (Held c m : sProp 𝕄) ⊢ iprop(∃ X, owns (c : Thread nD τ) m fullShare X) := by
  unfold owns Held
  iintro ⟨%f, H⟩
  iexists (m.view.read Val f)
  iexists f
  isplitr
  · ipureintro; rfl
  iexact H

/-- A whole buffer at some contents is the memref of the whole buffer, held. -/
theorem held_whole {c : Dev nD} (b : Ref sig .tc) :
    (Held c (Memref.whole b) : sProp 𝕄) = iprop(∃ f : Buf Val ((c : Thread nD τ).loc b), ((c : Thread nD τ).loc b) ↦{fullShare} f) := by
  unfold Held
  rw [(Memref.isWhole_whole b).set_eq_univ]

end Holdings

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data of the launch: the arrays as the region finds them, the scratch buffers at any contents. -/
def dats (_ : Fin 1) (c : Dev nD) : Dat τ (Elt F) Unit ℕ (UR sig nD τ) ℕ cfg0 c where
  A w := V m c (Pipeline.arrRef spec0 w)
  after w t := match w with
    | ⟨k, h⟩ => Pipeline.Dat.unnamed (cfg := cfg0) ⟨k, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What is held at point `t`: the ten staging buffers, the eleven scratch buffers, and `R` beside them. -/
def pool (c : Dev nD) (t : Fin cfg0.N) (R : sProp 𝕄) : sProp 𝕄 :=
  iprop(Held c (st0_0 t) ∗ Held c (st0_1 t) ∗ Held c (st0_2 t) ∗ Held c (st0_3 t) ∗ Held c (st0_4 t) ∗ Held c (st0_5 t) ∗ Held c (st0_6 t) ∗ Held c (st0_7 t) ∗ Held c (st0_8 t) ∗ Held c (st0_9 t) ∗ Held c (Memref.whole cc0_scratch0) ∗ Held c (Memref.whole cc0_scratch1) ∗ Held c (Memref.whole cc0_scratch2) ∗ Held c (Memref.whole cc0_scratch3) ∗ Held c (Memref.whole cc0_scratch4) ∗ Held c (Memref.whole cc0_scratch5) ∗ Held c (Memref.whole cc0_scratch6) ∗ Held c (Memref.whole cc0_scratch7) ∗ Held c (Memref.whole cc0_scratch8) ∗ Held c (Memref.whole cc0_scratch9) ∗ Held c (Memref.whole cc0_scratch10) ∗ R)

/-- The body at point `t` gives back what is held there. -/
theorem body_pool (c : Dev nD) (t : Fin cfg0.N) (R : sProp 𝕄) : Safe (defs₀ (F := F)) c (pool c t R) (bodyAt0 t) := by
  unfold bodyAt0
  apply body_safe (F := F) c (pool c t R)
  all_goals
    unfold pool
    repeat' first
      | with_reducible exact Lends.head
      | refine Lends.tail ?_

/-- What the body is called with at a point, and what it returns. -/
def atPoint (c : Dev nD) (t : Fin cfg0.N) (O : sProp 𝕄) : sProp 𝕄 :=
  iprop(Pipeline.ΦA spec0 c ∗ O ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X))

theorem pool_of_atPoint (c : Dev nD) (t : Fin cfg0.N) (O : sProp 𝕄) :
    atPoint c t O ⊢ pool c t iprop((∃ r, prngReg c r) ∗ O) := by
  unfold atPoint pool Pipeline.ΦA
  rw [scopedRest0_eq]
  simp only [held_whole]
  iintro ⟨⟨⟨S0, S1, S2, S3, S4, S5, S6, S7, S8, S9, S10⟩, Hg⟩, Ho, H0, H1, H2, H3, H4, H5, H6, H7, H8, H9⟩
  isplitl [H0]; · iapply held_of_owns; iexact H0
  isplitl [H1]; · iapply held_of_owns; iexact H1
  isplitl [H2]; · iapply held_of_owns; iexact H2
  isplitl [H3]; · iapply held_of_owns; iexact H3
  isplitl [H4]; · iapply held_of_owns; iexact H4
  isplitl [H5]; · iapply held_of_owns; iexact H5
  isplitl [H6]; · iapply held_of_owns; iexact H6
  isplitl [H7]; · iapply held_of_owns; iexact H7
  isplitl [H8]; · iapply held_of_owns; iexact H8
  isplitl [H9]; · iapply held_of_owns; iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [Hg]; · iexact Hg
  iexact Ho

theorem atPoint_of_pool (c : Dev nD) (t : Fin cfg0.N) (O : sProp 𝕄) :
    pool c t iprop((∃ r, prngReg c r) ∗ O) ⊢ atPoint c t O := by
  unfold atPoint pool Pipeline.ΦA
  rw [scopedRest0_eq]
  simp only [held_whole]
  iintro ⟨H0, H1, H2, H3, H4, H5, H6, H7, H8, H9, S0, S1, S2, S3, S4, S5, S6, S7, S8, S9, S10, Hg, Ho⟩
  isplitl [S0 S1 S2 S3 S4 S5 S6 S7 S8 S9 S10 Hg]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [Ho]; · iexact Ho
  isplitl [H0]; · iapply owns_of_held; iexact H0
  isplitl [H1]; · iapply owns_of_held; iexact H1
  isplitl [H2]; · iapply owns_of_held; iexact H2
  isplitl [H3]; · iapply owns_of_held; iexact H3
  isplitl [H4]; · iapply owns_of_held; iexact H4
  isplitl [H5]; · iapply owns_of_held; iexact H5
  isplitl [H6]; · iapply owns_of_held; iexact H6
  isplitl [H7]; · iapply owns_of_held; iexact H7
  isplitl [H8]; · iapply owns_of_held; iexact H8
  iapply owns_of_held; iexact H9

/-- The body at any point, from what it is called with to what it returns. -/
theorem sound_body (c : Dev nD) (t : Fin cfg0.N) (O : sProp 𝕄) :
    atPoint c t O ⊢ wp frame (wpE (defs₀ (F := F)) Variants.none c none) Set.univ (bodyAt0 t) (fun _ => atPoint c t O) :=
  (pool_of_atPoint c t O).trans ((body_pool c t _).trans (wp_mono _ _ _ fun _ => atPoint_of_pool c t O))

/-- The body table's row at point `t`'s slots is the body there. -/
theorem defs₀_row (t : Fin cfg0.N) : defs₀ (F := F) .tc cfg0.body (cfg0.bodyArgs t (cfg0.slots t)) = bodyAt0 t := by
  unfold defs₀; rw [Defs.onTc_tc]

/-- Nothing is claimed of what any window holds. -/
def forgets : Fin cfg0.W → Bool := fun _ => true

/-- The launch's obligation at every point. -/
theorem body_obligation (c : Dev nD) : BodyObligation (dats (F := F) m 0 c) (defs₀ (F := F)) Variants.none () Set.univ forgets := fun t => by
  rw [bigSep_W0, bigSep_W0, defs₀_row]
  exact triple_restated (sound_body c t ((dats m 0 c).owesAt () t.castSucc)) rfl .rfl fun _ => .rfl

set_option backward.isDefEq.respectTransparency.types false in
/-- The launch ends, with every buffer that is no window's array as the region found it, and every counter at zero. -/
theorem run : θ_run defs (onTc (τ := τ) (main (F := F))) (s₀ m ρ) (fun r =>
    Pipeline.RDat.FramePost (cfgs 0) (fun c => (dats m 0 c).toRForget forgets) (V m) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the program ends without fault, its five arguments are unchanged, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩, h.2⟩) (run m ρ)

end Cert.Route

end
-- ==== Proof.Sub1.Conv.lean ====
/- The convolution branch of the block body, in vector operations: one chunk of 32 rows is the bias row plus the 31
   shifted inputs, each times its row of weights, then a normalization over the lanes, a gain, an offset and `x·σ(x)`. -/
module

public import proofs.«01_k».proof.Proof.Gen.Kernel2Ideal.Frame

@[expose] public section

noncomputable section

namespace Cert.Sub1

open Cert.Kernel2Ideal Cert.Kernel2Ideal.Gen
open Idealize.ShloMosaic Idealize.ShloMosaic.TcCoe

variable {F : FTy → Type} [FloatOps F]

/-- The running sum of a chunk after the first `n` taps, from the bias row `b`, the taps' inputs `t` and weights `w`. -/
def accum (b : Vec F S1x1024 .f32) (w : Fin 31 → Vec F S1x1024 .f32) (t : Fin 31 → FVec F S32x1024 .f32) :
    (n : ℕ) → n ≤ 31 → FVec F S32x1024 .f32
  | 0, _ => broadcastTo S32x1024 (shapeCast S1x1024 (shapeCast S1x1024 b shapeCasts_S1x1024_S1x1024 : FVec F S1x1024 .f32) shapeCasts_S1x1024_S1x1024 : FVec F S1x1024 .f32) broadcasts_S1x1024_S32x1024
  | n + 1, h => addf (accum b w t n (Nat.le_of_succ_le h))
      (mulf (t ⟨n, h⟩) (broadcastTo S32x1024 (w ⟨n, h⟩) broadcasts_S1x1024_S32x1024 : FVec F S32x1024 .f32))

/-- The lanes' mean of each row, repeated over the lanes. -/
def rowMean (a : FVec F S32x1024 .f32) : FVec F S32x1 .f32 :=
  divf (shapeCast S32x1 (multiReduction .add [1] S32 a 0x00000000#32 reduces_S32x1024_S32 (.inl rfl) rfl : FVec F S32 .f32) shapeCasts_S32_S32x1 : FVec F S32x1 .f32)
    (broadcast S32x1 (Scalar.ofBits .f32 0x44800000#32 : F .f32))

/-- A chunk's rows, each less its mean. -/
def centre (a : FVec F S32x1024 .f32) : FVec F S32x1024 .f32 :=
  subf a (broadcastTo S32x1024 (rowMean a) broadcasts_S32x1_S32x1024)

/-- A chunk normalized over the lanes, times `g`, plus `b`. -/
def normed (a : FVec F S32x1024 .f32) (g b : Vec F S1x1024 .f32) : FVec F S32x1024 .f32 :=
  addf (mulf (mulf (centre a)
      (broadcastTo S32x1024 (rsqrt (addf (rowMean (mulf (centre a) (centre a))) (broadcast S32x1 (Scalar.ofBits .f32 0x358637BD#32 : F .f32))) : FVec F S32x1 .f32) broadcasts_S32x1_S32x1024))
      (broadcastTo S32x1024 (shapeCast S1x1024 g shapeCasts_S1x1024_S1x1024 : FVec F S1x1024 .f32) broadcasts_S1x1024_S32x1024))
    (broadcastTo S32x1024 (shapeCast S1x1024 b shapeCasts_S1x1024_S1x1024 : FVec F S1x1024 .f32) broadcasts_S1x1024_S32x1024)

/-- `y / (1 + exp (-y))`, rounded to bf16. -/
def act (y : FVec F S32x1024 .f32) : FVec F S32x1024 .bf16 :=
  truncf .bf16 (mulf y (divf (broadcast S32x1024 (Scalar.ofBits .f32 0x3F800000#32 : F .f32))
    (addf (broadcast S32x1024 (Scalar.ofBits .f32 0x3F800000#32 : F .f32))
      (exp (subf (broadcast S32x1024 (Scalar.ofBits .f32 0x00000000#32 : F .f32)) y))))) bitsLt_bf16_f32

/-- What a chunk of the convolution's output holds, from the bias, the weights, the gain and offset of the normalization, and the taps. -/
def chunk (b : Vec F S1x1024 .f32) (w : Fin 31 → Vec F S1x1024 .f32) (g o : Vec F S1x1024 .f32)
    (t : Fin 31 → FVec F S32x1024 .f32) : FVec F S32x1024 .bf16 :=
  shapeCast S32x1024 (act (normed (accum b w t 31 le_rfl) g o)) shapeCasts_S32x1024_S32x1024

/-- The rows at which tap `k` of chunk `ci` begins: `base` is a multiple of 8, `shift` the rest of the offset `2 + k`. -/
theorem base_le (ci : Fin 8) (k : Fin 31) : 32 * ci.val + 8 * ((2 + k.val) / 8) + 32 ≤ 288 := by omega

/-- Tap `k` of chunk `ci`, from the loads `z` of the unshifted rows and `zs` of the rows shifted by `1 … 7`. -/
def tap (z : (q : ℕ) → q + 32 ≤ 288 → Vec F S32x1024 .f32) (zs : (j : ℕ) → j < 7 → (q : ℕ) → q + 32 ≤ 288 → Vec F S1x32x1024 .f32)
    (ci : Fin 8) (k : Fin 31) : FVec F S32x1024 .f32 :=
  if h : (2 + k.val) % 8 = 0 then z _ (base_le ci k)
  else shapeCast S32x1024 (zs ((2 + k.val) % 8 - 1) (by omega) _ (base_le ci k)) shapeCasts_S1x32x1024_S32x1024

/-- The loads below stay inside the buffers of the unshifted and of the shifted rows. -/
theorem inb_z (q : ℕ) (h : q + 32 ≤ 288) : ∀ a, (![q, 0] : Fin 2 → Nat) a + S32x1024.size a ≤ S296x1024.size a := by
  intro a; fin_cases a
  · show q + 32 ≤ 296; omega
  · show 0 + 1024 ≤ 1024; omega

theorem inb_zs (j : ℕ) (hj : j < 7) (q : ℕ) (h : q + 32 ≤ 288) :
    ∀ a, (![j, q, 0] : Fin 3 → Nat) a + S1x32x1024.size a ≤ S7x288x1024.size a := by
  intro a; fin_cases a
  · show j + 1 ≤ 7; omega
  · show q + 32 ≤ 288; omega
  · show 0 + 1024 ≤ 1024; omega

theorem inb_w (k : ℕ) (hk : k < 31) : ∀ a, (![k, 0] : Fin 2 → Nat) a + S1x1024.size a ≤ S31x1024.size a := by
  intro a; fin_cases a
  · show k + 1 ≤ 31; omega
  · show 0 + 1024 ≤ 1024; omega

end Cert.Sub1
-- ==== Proof.Sub1.Spec.lean ====
/- The first sub-layer as functions of rows over the extended reals: the terms in which the kernel's blocks and the
   reference's arrays are both read. -/
module

public import Idealize.ShloMosaic.Lib.Pointwise

@[expose] public section

noncomputable section

namespace Cert.Sub1

open Idealize.ShloMosaic

/-- One position's 1024 channels. -/
abbrev Row := Fin 1024 → EReal

/-- The constant added to a mean of squares before its root. -/
def eps : EReal := Ideal.ofBits .f32 0x358637BD#32

/-- The number of channels, 1024, as both programs write it. -/
def width : EReal := Ideal.ofBits .f32 0x44800000#32

/-- The mean over the channels. -/
def mean (v : Row) : EReal := Ideal.div (∑ k, v k) width

/-- The logistic function, in the operations that both programs use. -/
def sigm (x : EReal) : EReal := Ideal.div 1 (1 + Ideal.exp (-x))

/-- A row times a matrix. -/
def dot (v : Row) (w : Fin 1024 → Row) : Row := fun e => ∑ k, v k * w k e

/-- The root-mean-square norm with gain `g`, then scaled by `1 + sc` and shifted by `sh`. -/
def rmsMod (x g sc sh : Row) : Row := fun d =>
  x d * Ideal.rsqrt (mean (fun k => x k * x k) + eps) * g d * (1 + sc d) + sh d

/-- The norm over the channels with gain `g` and offset `b`. -/
def layerNorm (v g b : Row) : Row := fun d =>
  (v d - mean v) * Ideal.rsqrt (mean (fun k => (v k - mean v) * (v k - mean v)) + eps) * g d + b d

/-- `x · σ(x)`. -/
def silu (v : Row) : Row := fun d => v d * sigm (v d)

/-- A row gated by the logistic function of another. -/
def gated (a g : Row) : Row := fun d => a d * sigm (g d)

/-- The convolution at one position, from the 31 rows `t` that it reaches. -/
def convRow (b : Row) (w t : Fin 31 → Row) : Row := fun d => b d + ∑ k, t k d * w k d

/-- The group of channel `d`. -/
def group (d : Fin 1024) : Fin 8 := ⟨d.val / 128, by omega⟩

/-- Whether position `j` of a block of 128 may reach position `i`: its chunk of 64 does not come later. -/
abbrev reaches (i j : Fin 128) : Prop := j.val / 64 ≤ i.val / 64

/-- The spatial mixing at position `i` of a block of 128 positions whose rows are `v`. -/
def mixRow (w : Fin 8 → Fin 128 → Fin 128 → EReal) (b : Fin 8 → Fin 128 → EReal) (i : Fin 128) (v : Fin 128 → Row) : Row :=
  fun d => (∑ j, (if reaches i j then w (group d) i j else 0) * v j d) + b (group d) i

/-- The weights of the sub-layer. -/
structure Weights where
  g1 : Row
  win : Fin 6 → Fin 1024 → Row
  dww : Fin 31 → Row
  dwb : Row
  clg : Row
  clb : Row
  wco : Fin 1024 → Row
  slg : Row
  slb : Row
  wsp : Fin 8 → Fin 128 → Fin 128 → EReal
  bsp : Fin 8 → Fin 128 → EReal
  wso : Fin 1024 → Row
  wout : Fin 1024 → Row

namespace Weights

variable (W : Weights)

/-- The gated input of the convolution, from the normalized row. -/
def z (n : Row) : Row := gated (dot n (W.win 0)) (dot n (W.win 1))

/-- The normalized values that the spatial mixing takes. -/
def v (n : Row) : Row := layerNorm (dot n (W.win 3)) W.slg W.slb

/-- The convolution branch, from the rows that the convolution reaches. -/
def branchA (t : Fin 31 → Row) : Row := dot (silu (layerNorm (convRow W.dwb W.dww t) W.clg W.clb)) W.wco

/-- The spatial gating branch, from the mixed row. -/
def branchB (n mix : Row) : Row := dot (fun d => dot n (W.win 2) d * mix d) W.wso

/-- The sub-layer's output at one position: `x` is its row, `gate` the gate, `n` the normalized row, `t` what the
    convolution reaches, `mix` the mixed row. -/
def out (x gate n : Row) (t : Fin 31 → Row) (mix : Row) : Row := fun d =>
  x d + gate d * dot (fun e => sigm (dot n (W.win 4) e) * W.branchA t e + sigm (dot n (W.win 5) e) * W.branchB n mix e) W.wout d

/-! ### A whole sequence, from its rows `x` and the rows `md` of its modulation -/

variable (x : Fin 2048 → Row) (md : Fin 6 → Row)

/-- The normalized and modulated row at position `s`. -/
def n (s : Fin 2048) : Row := rmsMod (x s) W.g1 (md 1) (md 0)

/-- The gated row 30 positions before `s`, zero before the sequence's start. -/
def back (s : ℕ) : Row := if h : 30 ≤ s ∧ s < 2078 then W.z (W.n x md ⟨s - 30, by omega⟩) else fun _ => 0

/-- The sub-layer's output at position `s`. -/
def sub1 (s : Fin 2048) : Row :=
  W.out (x s) (md 2) (W.n x md s) (fun k => W.back x md (s.val + k.val))
    (mixRow W.wsp W.bsp ⟨s.val % 128, by omega⟩ fun j => W.v (W.n x md ⟨128 * (s.val / 128) + j.val, by omega⟩))

end Weights

/-! ### The layer's arguments -/

/-- Column `e` of part `n` of an axis that holds six parts of 1024. -/
def part (n : Fin 6) (e : Fin 1024) : Fin 6144 := ⟨1024 * n.val + e.val, by omega⟩

/-- An array of rank `1`, `2` or `3` of extended reals. -/
abbrev Arr1 (n : ℕ) := (⟨1, ![n]⟩ : Shape).Idx → EReal
abbrev Arr2 (n k : ℕ) := (⟨2, ![n, k]⟩ : Shape).Idx → EReal
abbrev Arr3 (n k l : ℕ) := (⟨3, ![n, k, l]⟩ : Shape).Idx → EReal

/-- The weights as the arguments hold them. -/
def argWeights (a2 : Arr1 1024) (a3 : Arr2 1024 6144) (a4 : Arr2 31 1024) (a5 a6 a7 : Arr1 1024) (a8 : Arr2 1024 1024)
    (a9 a10 : Arr1 1024) (a11 : Arr3 8 128 128) (a12 : Arr2 8 128) (a13 a14 : Arr2 1024 1024) : Weights where
  g1 d := a2 (ix1 d)
  win n k e := a3 (ix2 k (part n e))
  dww k d := a4 (ix2 k d)
  dwb d := a5 (ix1 d)
  clg d := a6 (ix1 d)
  clb d := a7 (ix1 d)
  wco k e := a8 (ix2 k e)
  slg d := a9 (ix1 d)
  slb d := a10 (ix1 d)
  wsp g i j := a11 (ix3 g i j)
  bsp g i := a12 (ix2 g i)
  wso k e := a13 (ix2 k e)
  wout k e := a14 (ix2 k e)

/-- The rows of sequence `b`. -/
def argRows (a0 : Arr3 8 2048 1024) (b : Fin 8) (s : Fin 2048) : Row := fun d => a0 (ix3 b s d)

/-- The modulation's rows for sequence `b`. -/
def argMod (a1 : Arr2 8 6144) (b : Fin 8) (n : Fin 6) : Row := fun d => a1 (ix2 b (part n d))

/-- The sub-layer's result over all sequences. -/
def subLayer (W : Weights) (a0 : Arr3 8 2048 1024) (a1 : Arr2 8 6144) : Arr3 8 2048 1024 := fun i =>
  W.sub1 (argRows a0 (i 0)) (argMod a1 (i 0)) (i 1) (i 2)

end Cert.Sub1
-- ==== Proof.Sub1.Mix.lean ====
/- The spatial mixing of the block body: one tile of 128 positions and 128 channels, over the extended reals. -/
module

public import proofs.«01_k».proof.Proof.Sub1.Conv
public import proofs.«01_k».proof.Proof.Sub1.Spec

@[expose] public section

noncomputable section

namespace Cert.Sub1

open Cert.Kernel2Ideal Cert.Kernel2Ideal.Gen
open Idealize.ShloMosaic Idealize.ShloMosaic.TcCoe

/-- The mask of the spatial mixing, as the body computes it. -/
def keep : IVec S128x128 1 := k0_pay135 (iota .tc S128x128 32 [0] iota_S128x128_d0_w32) 64#32 k0_pay134 0#32

theorem keep_eq : (keep : IVec S128x128 1) = cmpi .sle kernelRun0_B.sl.v1952 kernelRun0_B.sl.v1927 := (rfl)

/-- A position's chunk of 64, by a division that rounds down: a quotient that rounds to zero, less one where the signs
    differ and the division leaves a rest. -/
def chunkOf (i : Fin 128) : BitVec 32 :=
  Scalar.select
    (IntOp.andi
      (IntOp.cmpi .ne
        (IntOp.subi (BitVec.setWidth 32 (IntOp.cmpi .sgt (BitVec.ofNat 32 i.val) 0#32))
          (BitVec.setWidth 32 (IntOp.cmpi .slt (BitVec.ofNat 32 i.val) 0#32)))
        (Scalar.subi (Scalar.extui (Scalar.cmpi .sgt 64#32 0#32)) (Scalar.extui (Scalar.cmpi .slt 64#32 0#32))))
      (IntOp.cmpi .ne (IntOp.remsi .vector (BitVec.ofNat 32 i.val) 64#32) 0#32))
    (IntOp.subi (IntOp.divsi .vector (BitVec.ofNat 32 i.val) 64#32) 1#32)
    (IntOp.divsi .vector (BitVec.ofNat 32 i.val) 64#32)

theorem chunkOf_eq : ∀ i : Fin 128, chunkOf i = BitVec.ofNat 32 (i.val / 64) := by decide +kernel

theorem sle_chunks : ∀ a b : Fin 2,
    IntOp.cmpi .sle (BitVec.ofNat 32 b.val) (BitVec.ofNat 32 a.val) = if b.val ≤ a.val then 1#1 else 0#1 := by decide +kernel

theorem keep_apply (i j : Fin 128) : keep (ix2 i j) = if reaches i j then 1#1 else 0#1 := by
  have e : keep (ix2 i j) = IntOp.cmpi .sle (chunkOf j) (chunkOf i) := by
    pointwise [keep, k0_pay135, k0_pay134, chunkOf]
  rw [e, chunkOf_eq, chunkOf_eq]
  exact sle_chunks ⟨i.val / 64, by omega⟩ ⟨j.val / 64, by omega⟩

theorem tile_apply (w : Vec Ideal S1x128x128 .f32) (v : Vec Ideal S128x128 .bf16) (b : Vec Ideal S128x128 .f32) (i d : Fin 128) :
    k0_pay137 keep w v b (ix2 i d) = (∑ j, (if reaches i j then w (ix3 0 i j) else 0) * v (ix2 j d)) + b (ix2 i d) := by
  pointwise [k0_pay137, k0_pay136]
  refine congrArg (· + b (ix2 i d)) (Finset.sum_congr rfl fun j _ => ?_)
  rw [keep_apply]
  by_cases h : reaches i j
  · simp only [if_pos h]; rfl
  · simp only [if_neg h, zero_mul]; rfl

end Cert.Sub1
-- ==== Proof.Sub1.Loads.lean ====
/- What the block body's run holds by name, in either case of the point: the loads of the windows, the normalized rows,
   the gated rows, the values of the spatial mixing, and the lists of what is stored into each buffer. -/
module

public import proofs.«01_k».proof.Proof.Sub1.Mix

@[expose] public section

set_option maxRecDepth 100000

noncomputable section

namespace Cert.Sub1

open Cert.Kernel2Ideal Cert.Kernel2Ideal.Gen
open Idealize.ShloMosaic Idealize.ShloMosaic.TcCoe

/-- The rectangles of the buffers below stay inside them. -/
theorem inb_chunk (ci : Fin 8) : ∀ a, (![32 * ci.val, 0] : Fin 2 → Nat) a + S32x1024.size a ≤ S256x1024.size a := by
  intro a; fin_cases a
  · show 32 * ci.val + 32 ≤ 256; omega
  · show 0 + 1024 ≤ 1024; omega

theorem inb_tile (g : Fin 8) (h : Fin 2) : ∀ a, (![128 * h.val, 128 * g.val] : Fin 2 → Nat) a + S128x128.size a ≤ S256x1024.size a := by
  intro a; fin_cases a
  · show 128 * h.val + 128 ≤ 256; omega
  · show 128 * g.val + 128 ≤ 1024; omega

theorem inb_shift (j : Fin 7) : ∀ a, (![j.val, 0, 0] : Fin 3 → Nat) a + S1x288x1024.size a ≤ S7x288x1024.size a := by
  intro a; fin_cases a
  · show j.val + 1 ≤ 7; omega
  · show 0 + 288 ≤ 288; omega
  · show 0 + 1024 ≤ 1024; omega

theorem inb_rows (j : Fin 7) : ∀ a, (![j.val + 1, 0] : Fin 2 → Nat) a + S288x1024.size a ≤ S296x1024.size a := by
  intro a; fin_cases a
  · show j.val + 1 + 288 ≤ 296; omega
  · show 0 + 1024 ≤ 1024; omega

theorem inb_win (n : Fin 6) : ∀ a, (![0, 1024 * n.val] : Fin 2 → Nat) a + S1024x1024.size a ≤ S1024x6144.size a := by
  intro a; fin_cases a
  · show 0 + 1024 ≤ 1024; omega
  · show 1024 * n.val + 1024 ≤ 6144; omega

theorem inb_mod (n : Fin 6) : ∀ a, (![0, n.val, 0] : Fin 3 → Nat) a + S1x1x1024.size a ≤ S1x6x1024.size a := by
  intro a; fin_cases a
  · show 0 + 1 ≤ 1; omega
  · show n.val + 1 ≤ 6; omega
  · show 0 + 1024 ≤ 1024; omega

theorem inb_wsp (g : Fin 8) : ∀ a, (![g.val, 0, 0] : Fin 3 → Nat) a + S1x128x128.size a ≤ S8x128x128.size a := by
  intro a; fin_cases a
  · show g.val + 1 ≤ 8; omega
  · show 0 + 128 ≤ 128; omega
  · show 0 + 128 ≤ 128; omega

theorem inb_bsp (g : Fin 8) : ∀ a, (![0, 128 * g.val] : Fin 2 → Nat) a + S128x128.size a ≤ S128x1024.size a := by
  intro a; fin_cases a
  · show 0 + 128 ≤ 128; omega
  · show 128 * g.val + 128 ≤ 1024; omega

section Lists

variable {F : FTy → Type} [FloatOps F]

/-- The chunks as pieces of the buffer of the convolution's output, the last stored first. -/
def chunkPieces (ch : Fin 8 → FVec F S32x1024 .bf16) : List (View.Piece (Elt F) S256x1024 .bf16) :=
  ([7, 6, 5, 4, 3, 2, 1, 0] : List (Fin 8)).map fun ci =>
    ⟨Rect.unit (s := S256x1024) ![32 * ci.val, 0] S32x1024.size (inb_chunk ci), ch ci⟩

/-- The tiles of the spatial mixing as pieces of its buffer, the last stored first. -/
def tilePieces (t : Fin 8 → Fin 2 → FVec F S128x128 .f32) : List (View.Piece (Elt F) S256x1024 .f32) :=
  ([(7, 1), (7, 0), (6, 1), (6, 0), (5, 1), (5, 0), (4, 1), (4, 0), (3, 1), (3, 0), (2, 1), (2, 0), (1, 1), (1, 0), (0, 1), (0, 0)] : List (Fin 8 × Fin 2)).map fun gh =>
    ⟨Rect.unit (s := S256x1024) ![128 * gh.2.val, 128 * gh.1.val] S128x128.size (inb_tile gh.1 gh.2), t gh.1 gh.2⟩

/-- The shifted copies of the rows as pieces of their buffer, the last stored first. -/
def shiftPieces (s : Fin 7 → FVec F S288x1024 .f32) : List (View.Piece (Elt F) S7x288x1024 .f32) :=
  ([6, 5, 4, 3, 2, 1, 0] : List (Fin 7)).map fun j =>
    ⟨Rect.unit (s := S7x288x1024) ![j.val, 0, 0] S1x288x1024.size (inb_shift j), shapeCast S1x288x1024 (s j) shapeCasts_S288x1024_S1x288x1024⟩

end Lists

variable (c : Dev nD)
  (arg2 : Memref sig .tc .vmem S1x256x1024 .f32) (harg2 : arg2.IsWhole)
  (arg3 : Memref sig .tc .vmem S1x6x1024 .f32) (harg3 : arg3.IsWhole)
  (arg4 : Memref sig .tc .vmem S1x1024 .f32) (harg4 : arg4.IsWhole)
  (arg5 : Memref sig .tc .vmem S1024x6144 .bf16) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg11 : Memref sig .tc .vmem S1x1024 .f32) (harg11 : arg11.IsWhole)
  (arg12 : Memref sig .tc .vmem S1x1024 .f32) (harg12 : arg12.IsWhole)
  (arg13 : Memref sig .tc .vmem S8x128x128 .f32) (harg13 : arg13.IsWhole)
  (arg14 : Memref sig .tc .vmem S128x1024 .f32) (harg14 : arg14.IsWhole)
  (arg18 : Memref sig .tc .vmem S296x1024 .f32) (harg18 : arg18.IsWhole)
  (arg19 : Memref sig .tc .vmem S7x288x1024 .f32)
  (arg21 : Memref sig .tc .vmem S256x1024 .bf16)
 (x0 : Vec Ideal S1x256x1024 .f32) (x1 : Vec Ideal S1x6x1024 .f32) (x2 : Vec Ideal S1x1024 .f32) (x3 : Vec Ideal S1024x6144 .bf16) (x4 : Vec Ideal S31x1024 .f32) (x5 : Vec Ideal S1x1024 .f32) (x6 : Vec Ideal S1x1024 .f32) (x7 : Vec Ideal S1x1024 .f32)
 (x9 : Vec Ideal S1x1024 .f32) (x10 : Vec Ideal S1x1024 .f32) (x11 : Vec Ideal S8x128x128 .f32) (x12 : Vec Ideal S128x1024 .f32) (xs0 : Vec Ideal S296x1024 .f32)

/-! ## The loads of the windows -/

/-- The block of `x`. -/
def ldX : Vec Ideal S1x256x1024 .f32 :=
  View.readAt (Elt Ideal) arg2.view (Rect.unit (s := S1x256x1024) ![0, 0, 0] S1x256x1024.size inb_S1x256x1024_S1x256x1024_0_0_0).toLoadRect (harg2.unread x0)

/-- Row `n` of the modulation. -/
def ldMod (n : Fin 6) : Vec Ideal S1x1x1024 .f32 :=
  View.readAt (Elt Ideal) arg3.view (Rect.unit (s := S1x6x1024) ![0, n.val, 0] S1x1x1024.size (inb_mod n)).toLoadRect (harg3.unread x1)

/-- A row vector. -/
def ldRow (a : Memref sig .tc .vmem S1x1024 .f32) (ha : a.IsWhole) (x : Vec Ideal S1x1024 .f32) : Vec Ideal S1x1024 .f32 :=
  View.readAt (Elt Ideal) a.view (Rect.unit (s := S1x1024) ![0, 0] S1x1024.size inb_S1x1024_S1x1024_0_0).toLoadRect (ha.unread x)

/-- Part `n` of the input projection. -/
def ldWin (n : Fin 6) : Vec Ideal S1024x1024 .bf16 :=
  View.readAt (Elt Ideal) arg5.view (Rect.unit (s := S1024x6144) ![0, 1024 * n.val] S1024x1024.size (inb_win n)).toLoadRect (harg5.unread x3)

/-- A square matrix. -/
def ldMat (a : Memref sig .tc .vmem S1024x1024 .bf16) (ha : a.IsWhole) (x : Vec Ideal S1024x1024 .bf16) : Vec Ideal S1024x1024 .bf16 :=
  View.readAt (Elt Ideal) a.view (Rect.unit (s := S1024x1024) ![0, 0] S1024x1024.size inb_S1024x1024_S1024x1024_0_0).toLoadRect (ha.unread x)

/-- The weights of tap `k`. -/
def ldTap (k : Fin 31) : Vec Ideal S1x1024 .f32 :=
  View.readAt (Elt Ideal) arg6.view (Rect.unit (s := S31x1024) ![k.val, 0] S1x1024.size (inb_w k.val k.isLt)).toLoadRect (harg6.unread x4)

/-- The spatial weights of group `g`. -/
def ldSp (g : Fin 8) : Vec Ideal S1x128x128 .f32 :=
  View.readAt (Elt Ideal) arg13.view (Rect.unit (s := S8x128x128) ![g.val, 0, 0] S1x128x128.size (inb_wsp g)).toLoadRect (harg13.unread x11)

/-- The spatial bias over the channels of group `g`. -/
def ldSb (g : Fin 8) : Vec Ideal S128x128 .f32 :=
  View.readAt (Elt Ideal) arg14.view (Rect.unit (s := S128x1024) ![0, 128 * g.val] S128x128.size (inb_bsp g)).toLoadRect (harg14.unread x12)

/-! ## What is computed from them -/

/-- The block's normalized and modulated rows. -/
def nrm : Vec Ideal S256x1024 .bf16 :=
  k0_pay6 (ldX arg2 harg2 x0) (ldMod arg3 harg3 x1 0) (ldMod arg3 harg3 x1 1) (ldRow arg4 harg4 x2)

/-- The block's gated rows. -/
def zval : Vec Ideal S256x1024 .f32 :=
  k0_pay8 (nrm arg2 harg2 arg3 harg3 arg4 harg4 x0 x1 x2) (k0_pay7 (ldWin arg5 harg5 x3 0)) (constant S256x1024 .f32 0x00000000#32) (ldWin arg5 harg5 x3 1)

/-- The block's values that the spatial mixing takes. -/
def vval : Vec Ideal S256x1024 .bf16 :=
  k0_pay133 (nrm arg2 harg2 arg3 harg3 arg4 harg4 x0 x1 x2) (ldWin arg5 harg5 x3 3) (ldRow arg11 harg11 x9) (ldRow arg12 harg12 x10)

/-- The stores that put the gated rows into their buffer. -/
def zPieces : List (View.Piece (Elt Ideal) S296x1024 .f32) :=
  [⟨Rect.unit (s := S296x1024) ![32, 0] S256x1024.size inb_S296x1024_S256x1024_32_0, zval arg2 harg2 arg3 harg3 arg4 harg4 arg5 harg5 x0 x1 x2 x3⟩]

/-- At a sequence's first block, zeros before and after the gated rows as well. -/
def zPiecesA : List (View.Piece (Elt Ideal) S296x1024 .f32) :=
  zPieces arg2 harg2 arg3 harg3 arg4 harg4 arg5 harg5 x0 x1 x2 x3
    ++ [⟨Rect.unit (s := S296x1024) ![288, 0] S8x1024.size inb_S296x1024_S8x1024_288_0, (k0_pay3 (F := Ideal) : FVec Ideal S8x1024 .f32)⟩,
      ⟨Rect.unit (s := S296x1024) ![0, 0] S32x1024.size inb_S296x1024_S32x1024_0_0, (k0_pay2 (F := Ideal) : FVec Ideal S32x1024 .f32)⟩]

/-- Rows of the buffer of the gated rows, loaded at a sequence's first block. -/
def zLoadA (B : LoadRect S296x1024) : B.shape.Idx → EReal :=
  arg18.view.readCov (zPiecesA arg2 harg2 arg3 harg3 arg4 harg4 arg5 harg5 x0 x1 x2 x3) B

/-- Rows of the buffer of the gated rows, loaded at a later block over what the block before left. -/
def zLoadB (B : LoadRect S296x1024) : B.shape.Idx → EReal :=
  View.readAt (Elt Ideal) arg18.view B (arg18.view.writes (Elt Ideal) (harg18.unread xs0) (zPieces arg2 harg2 arg3 harg3 arg4 harg4 arg5 harg5 x0 x1 x2 x3))

/-- The same where the rows loaded were all stored at this block. -/
def zLoadC (B : LoadRect S296x1024) : B.shape.Idx → EReal :=
  arg18.view.readCov (zPieces arg2 harg2 arg3 harg3 arg4 harg4 arg5 harg5 x0 x1 x2 x3) B

/-- The shifted copies, from a way of loading the rows. -/
def shifts (z : (B : LoadRect S296x1024) → B.shape.Idx → EReal) : List (View.Piece (Elt Ideal) S7x288x1024 .f32) :=
  shiftPieces (F := Ideal) fun j => z (Rect.unit (s := S296x1024) ![j.val + 1, 0] S288x1024.size (inb_rows j)).toLoadRect

/-- The loads of the taps: of the unshifted rows, and of the shifted copies. -/
def tapLoads (z z' : (B : LoadRect S296x1024) → B.shape.Idx → EReal) (ci : Fin 8) (k : Fin 31) : FVec Ideal S32x1024 .f32 :=
  tap (fun q h => if 32 ≤ q then z' (Rect.unit (s := S296x1024) ![q, 0] S32x1024.size (inb_z q h)).toLoadRect
      else z (Rect.unit (s := S296x1024) ![q, 0] S32x1024.size (inb_z q h)).toLoadRect)
    (fun j hj q h => arg19.view.readCov (shifts z) (Rect.unit (s := S7x288x1024) ![j, q, 0] S1x32x1024.size (inb_zs j hj q h)).toLoadRect)
    ci k

/-- The convolution's output, from the ways of loading the rows. -/
def convPieces (z z' : (B : LoadRect S296x1024) → B.shape.Idx → EReal) : List (View.Piece (Elt Ideal) S256x1024 .bf16) :=
  chunkPieces fun ci => chunk (ldRow arg7 harg7 x5) (ldTap arg6 harg6 x4) (ldRow arg8 harg8 x6) (ldRow arg9 harg9 x7)
    (tapLoads arg19 z z' ci)

/-- The values' rows `128 h …` and channels of group `g`, as the mixing loads them. -/
def vTile (g : Fin 8) (h : Fin 2) : Vec Ideal S128x128 .bf16 :=
  arg21.view.readCov [(⟨Rect.unit (s := S256x1024) ![0, 0] S256x1024.size inb_S256x1024_S256x1024_0_0, vval arg2 harg2 arg3 harg3 arg4 harg4 arg5 harg5 arg11 harg11 arg12 harg12 x0 x1 x2 x3 x9 x10⟩ : View.Piece (Elt Ideal) S256x1024 .bf16)]
    (Rect.unit (s := S256x1024) ![128 * h.val, 128 * g.val] S128x128.size (inb_tile g h)).toLoadRect

/-- The mixing's output. -/
def mixPieces : List (View.Piece (Elt Ideal) S256x1024 .f32) :=
  tilePieces fun g h => k0_pay137 keep (ldSp arg13 harg13 x11 g)
    (vTile arg2 harg2 arg3 harg3 arg4 harg4 arg5 harg5 arg11 harg11 arg12 harg12 arg21 x0 x1 x2 x3 x9 x10 g h) (ldSb arg14 harg14 x12 g)

/-! ## The run's own names -/

set_option maxHeartbeats 800000 in
theorem conv_B : kernelRun0_B.sl.HS2_8 c arg2 harg2 arg3 harg3 arg4 harg4 arg5 harg5 arg6 harg6 arg7 harg7 arg8 harg8 arg9 harg9 arg18 harg18 arg19 x0 x1 x2 x3 x4 x5 x6 x7 xs0
    = convPieces arg6 harg6 arg7 harg7 arg8 harg8 arg9 harg9 arg19 x4 x5 x6 x7
        (zLoadB arg2 harg2 arg3 harg3 arg4 harg4 arg5 harg5 arg18 harg18 x0 x1 x2 x3 xs0) (zLoadC arg2 harg2 arg3 harg3 arg4 harg4 arg5 harg5 arg18 x0 x1 x2 x3) := (rfl)

set_option maxHeartbeats 800000 in
theorem conv_A : kernelRun0_A.sl.HS2_8 c arg2 harg2 arg3 harg3 arg4 harg4 arg5 harg5 arg6 harg6 arg7 harg7 arg8 harg8 arg9 harg9 arg18 arg19 x0 x1 x2 x3 x4 x5 x6 x7
    = convPieces arg6 harg6 arg7 harg7 arg8 harg8 arg9 harg9 arg19 x4 x5 x6 x7
        (zLoadA arg2 harg2 arg3 harg3 arg4 harg4 arg5 harg5 arg18 x0 x1 x2 x3) (zLoadA arg2 harg2 arg3 harg3 arg4 harg4 arg5 harg5 arg18 x0 x1 x2 x3) := (rfl)

set_option maxHeartbeats 800000 in
theorem mix_B : kernelRun0_B.sl.HS4_16 c arg2 harg2 arg3 harg3 arg4 harg4 arg5 harg5 arg11 harg11 arg12 harg12 arg13 harg13 arg14 harg14 arg21 x0 x1 x2 x3 x9 x10 x11 x12
    = mixPieces arg2 harg2 arg3 harg3 arg4 harg4 arg5 harg5 arg11 harg11 arg12 harg12 arg13 harg13 arg14 harg14 arg21 x0 x1 x2 x3 x9 x10 x11 x12 := (rfl)

set_option maxHeartbeats 800000 in
theorem mix_A : kernelRun0_A.sl.HS4_16 c arg2 harg2 arg3 harg3 arg4 harg4 arg5 harg5 arg11 harg11 arg12 harg12 arg13 harg13 arg14 harg14 arg21 x0 x1 x2 x3 x9 x10 x11 x12
    = mixPieces arg2 harg2 arg3 harg3 arg4 harg4 arg5 harg5 arg11 harg11 arg12 harg12 arg13 harg13 arg14 harg14 arg21 x0 x1 x2 x3 x9 x10 x11 x12 := (rfl)

end Cert.Sub1
-- ==== Proof.Sub1.Rows.lean ====
/- What the block body's operations compute at an index, over the extended reals, in the terms of Spec.lean. -/
module

public import proofs.«01_k».proof.Proof.Sub1.Conv
public import proofs.«01_k».proof.Proof.Sub1.Spec

@[expose] public section

noncomputable section

namespace Cert.Sub1

open Cert.Kernel2Ideal Cert.Kernel2Ideal.Gen
open Idealize.ShloMosaic Idealize.ShloMosaic.TcCoe

/-- The row of a one-row array. -/
abbrev row1 (g : S1x1024.Idx → EReal) : Row := fun k => g (ix2 0 k)

/-- A square array as a matrix. -/
abbrev mat (w : S1024x1024.Idx → EReal) : Fin 1024 → Row := fun k e => w (ix2 k e)

theorem norm_apply (x : Vec Ideal S1x256x1024 .f32) (sh sc : Vec Ideal S1x1x1024 .f32) (g : Vec Ideal S1x1024 .f32)
    (i : Fin 256) (d : Fin 1024) :
    k0_pay6 x sh sc g (ix2 i d)
      = rmsMod (fun k => x (ix3 0 i k)) (row1 g) (fun k => sc (ix3 0 0 k)) (fun k => sh (ix3 0 0 k)) d := by
  pointwise [k0_pay6, k0_pay4]
  rfl

theorem gated_apply (n : Vec Ideal S256x1024 .bf16) (a b : Vec Ideal S1024x1024 .bf16) (i : Fin 256) (d : Fin 1024) :
    k0_pay8 n (k0_pay7 a) (constant S256x1024 .f32 0x00000000#32) b (ix2 i d)
      = gated (dot (fun k => n (ix2 i k)) (mat a)) (dot (fun k => n (ix2 i k)) (mat b)) d := by
  pointwise [k0_pay8, k0_pay7]
  rw [zero_sub]
  rfl

theorem accum_apply (b : Vec Ideal S1x1024 .f32) (w : Fin 31 → Vec Ideal S1x1024 .f32) (t : Fin 31 → FVec Ideal S32x1024 .f32)
    (i : Fin 32) (d : Fin 1024) : ∀ (n : ℕ) (h : n ≤ 31),
    accum b w t n h (ix2 i d) = b (ix2 0 d) + ∑ k : Fin n, t (k.castLE h) (ix2 i d) * w (k.castLE h) (ix2 0 d)
  | 0, _ => by
    pointwise [accum]
    rw [Finset.univ_eq_empty, Finset.sum_empty, add_zero]
  | n + 1, h => by
    rw [Fin.sum_univ_castSucc, ← add_assoc]
    have e := accum_apply b w t i d n (Nat.le_of_succ_le h)
    pointwise [accum]
    rw [e]
    rfl

theorem chunk_apply (b : Vec Ideal S1x1024 .f32) (w : Fin 31 → Vec Ideal S1x1024 .f32) (g o : Vec Ideal S1x1024 .f32)
    (t : Fin 31 → FVec Ideal S32x1024 .f32) (i : Fin 32) (d : Fin 1024) :
    chunk b w g o t (ix2 i d)
      = silu (layerNorm (convRow (row1 b) (fun k => row1 (w k)) (fun k e => t k (ix2 i e))) (row1 g) (row1 o)) d := by
  have e : ∀ d, accum b w t 31 le_rfl (ix2 i d) = convRow (row1 b) (fun k => row1 (w k)) (fun k e => t k (ix2 i e)) d :=
    fun d => accum_apply b w t i d 31 le_rfl
  pointwise [chunk, act, normed, centre, rowMean]
  simp only [e, zero_sub]
  rfl

theorem branchA_apply (a : Vec Ideal S256x1024 .bf16) (w : Vec Ideal S1024x1024 .bf16) (i : Fin 256) (d : Fin 1024) :
    k0_pay129 a w (ix2 i d) = dot (fun k => a (ix2 i k)) (mat w) d := by
  pointwise [k0_pay129]
  rfl

theorem gateA_apply (y : Vec Ideal S256x1024 .f32) (n : Vec Ideal S256x1024 .bf16) (w : Vec Ideal S1024x1024 .bf16)
    (i : Fin 256) (d : Fin 1024) :
    k0_pay132 y (k0_pay130 n w) k0_pay131 (ix2 i d) = sigm (dot (fun k => n (ix2 i k)) (mat w) d) * y (ix2 i d) := by
  pointwise [k0_pay132, k0_pay130, k0_pay131]
  rw [zero_sub]
  rfl

theorem value_apply (n : Vec Ideal S256x1024 .bf16) (w : Vec Ideal S1024x1024 .bf16) (g b : Vec Ideal S1x1024 .f32)
    (i : Fin 256) (d : Fin 1024) :
    k0_pay133 n w g b (ix2 i d) = layerNorm (dot (fun k => n (ix2 i k)) (mat w)) (row1 g) (row1 b) d := by
  pointwise [k0_pay133]
  rfl

theorem branchB_apply (n : Vec Ideal S256x1024 .bf16) (w : Vec Ideal S1024x1024 .bf16) (m : Vec Ideal S256x1024 .f32)
    (w' : Vec Ideal S1024x1024 .bf16) (i : Fin 256) (d : Fin 1024) :
    k0_pay164 n w m w' (ix2 i d) = dot (fun e => dot (fun k => n (ix2 i k)) (mat w) e * m (ix2 i e)) (mat w') d := by
  pointwise [k0_pay164]
  rfl

theorem out_apply (x : Vec Ideal S1x256x1024 .f32) (gate : Vec Ideal S1x1x1024 .f32) (a b : Vec Ideal S256x1024 .f32)
    (n : Vec Ideal S256x1024 .bf16) (w w' : Vec Ideal S1024x1024 .bf16) (i : Fin 256) (d : Fin 1024) :
    k0_pay1 (k0_pay4 x) (k0_pay5 gate) a b (k0_pay165 n w) k0_pay166 w' (ix3 0 i d)
      = x (ix3 0 i d) + gate (ix3 0 0 d) * dot (fun e => a (ix2 i e) + sigm (dot (fun k => n (ix2 i k)) (mat w) e) * b (ix2 i e)) (mat w') d := by
  pointwise [k0_pay1, k0_pay4, k0_pay5, k0_pay165, k0_pay166]
  simp only [zero_sub]
  rfl

end Cert.Sub1
-- ==== Proof.Sub1.Buffers.lean ====
/- What the block body reads back from its buffers: a list of pieces read at an index holds the payload of the piece that
   the index lies in. -/
module

public import proofs.«01_k».proof.Proof.Sub1.Loads
public import proofs.«01_k».proof.Proof.Sub1.Rows
public import Idealize.ShloMosaic.Lib.WritesUnit

@[expose] public section

noncomputable section

namespace Cert.Sub1

open Cert.Kernel2Ideal Cert.Kernel2Ideal.Gen
open Idealize.ShloMosaic Idealize.ShloMosaic.TcCoe

/-- An index of the last piece stored reads its payload; -/
theorem canon_head {s : Shape} {e : EltTy} (off size : Fin s.rank → ℕ) (inb : ∀ a, off a + size a ≤ s.size a)
    (w : (Rect.unit off size inb).shape.Idx → Elt Ideal e) (L : List (View.Piece (Elt Ideal) s e))
    (y : s.Idx) (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y :=
    funext fun a => Fin.ext (by show off a + 1 * (x a).val = _; rw [hx a, Nat.one_mul])
  rw [← hy, View.canon_cons_emb]

/-- any other index what the stores before left. -/
theorem canon_tail {s : Shape} {e : EltTy} (off size : Fin s.rank → ℕ) (inb : ∀ a, off a + size a ≤ s.size a)
    (w : (Rect.unit off size inb).shape.Idx → Elt Ideal e) (L : List (View.Piece (Elt Ideal) s e))
    (y : s.Idx) (a : Fin s.rank) (ha : (y a).val < off a ∨ off a + size a ≤ (y a).val) :
    View.canon ((⟨Rect.unit off size inb, w⟩ : View.Piece (Elt Ideal) s e) :: L) y = View.canon L y := by
  refine View.canon_cons_of_not_mem _ _ ?_
  show y ∉ (Rect.unit off size inb).set
  rw [Rect.mem_set_unit]
  intro hall
  have := hall a
  omega

/-- Of pieces that an index lies in one of only, that piece's payload is read there. -/
theorem canon_map {s : Shape} {e : EltTy} {ι : Type} [DecidableEq ι] (off : ι → Fin s.rank → ℕ) (size : Fin s.rank → ℕ)
    (inb : ∀ i a, off i a + size a ≤ s.size a) (w : (i : ι) → (Rect.unit (off i) size (inb i)).shape.Idx → Elt Ideal e)
    (y : s.Idx) (i : ι) (x : (Rect.unit (off i) size (inb i)).shape.Idx) (hx : ∀ a, (y a).val = off i a + (x a).val)
    (far : ∀ j, j ≠ i → ∃ a, (y a).val < off j a ∨ off j a + size a ≤ (y a).val) :
    ∀ is : List ι, i ∈ is →
      View.canon (is.map fun i => (⟨Rect.unit (off i) size (inb i), w i⟩ : View.Piece (Elt Ideal) s e)) y = w i x
  | j :: is, hm => by
    rw [List.map_cons]
    by_cases h : j = i
    · subst h
      exact canon_head _ _ _ _ _ y x hx
    · obtain ⟨a, ha⟩ := far j h
      rw [canon_tail _ _ _ _ _ y a ha]
      exact canon_map off size inb w y i x hx far is ((List.mem_cons.1 hm).resolve_left (Ne.symm h))

theorem chunkPieces_apply (ch : Fin 8 → FVec Ideal S32x1024 .bf16) (y : S256x1024.Idx) :
    View.canon (chunkPieces ch) y
      = ch ⟨(y 0).val / 32, by have : (y 0).val < 256 := (y 0).isLt; omega⟩ (ix2 ⟨(y 0).val % 32, by omega⟩ (y 1)) := by
  have hy : (y 0).val < 256 := (y 0).isLt
  refine canon_map (s := S256x1024) (e := .bf16) (fun ci : Fin 8 => ![32 * ci.val, 0]) S32x1024.size inb_chunk (fun ci => ch ci) y _ (ix2 ⟨(y 0).val % 32, by omega⟩ (y 1))
    (fun a => ?_) (fun j hj => ⟨0, ?_⟩) _ ?_
  · fin_cases a
    · show (y 0).val = 32 * ((y 0).val / 32) + (y 0).val % 32; omega
    · exact (Nat.zero_add _).symm
  · have : j.val ≠ (y 0).val / 32 := fun h => hj (Fin.ext h)
    show (y 0).val < 32 * j.val ∨ 32 * j.val + 32 ≤ (y 0).val
    omega
  · generalize (⟨(y 0).val / 32, _⟩ : Fin 8) = k
    revert k; decide

theorem tilePieces_apply (t : Fin 8 → Fin 2 → FVec Ideal S128x128 .f32) (y : S256x1024.Idx) :
    View.canon (tilePieces t) y
      = t (group (y 1)) ⟨(y 0).val / 128, by have : (y 0).val < 256 := (y 0).isLt; omega⟩
          (ix2 ⟨(y 0).val % 128, by omega⟩ ⟨(y 1).val % 128, by omega⟩) := by
  have hy : (y 0).val < 256 := (y 0).isLt
  refine canon_map (s := S256x1024) (e := .f32) (fun gh : Fin 8 × Fin 2 => ![128 * gh.2.val, 128 * gh.1.val]) S128x128.size (fun gh => inb_tile gh.1 gh.2) (fun gh => t gh.1 gh.2) y
    (group (y 1), ⟨(y 0).val / 128, by omega⟩) (ix2 ⟨(y 0).val % 128, by omega⟩ ⟨(y 1).val % 128, by omega⟩) (fun a => ?_) (fun j hj => ?_) _ ?_
  · fin_cases a
    · show (y 0).val = 128 * ((y 0).val / 128) + (y 0).val % 128; omega
    · show (y 1).val = 128 * ((y 1).val / 128) + (y 1).val % 128; omega
  · by_cases h : j.1.val = (y 1).val / 128
    · have : j.2.val ≠ (y 0).val / 128 := fun h' => hj (Prod.ext (Fin.ext h) (Fin.ext h'))
      refine ⟨0, ?_⟩
      show (y 0).val < 128 * j.2.val ∨ 128 * j.2.val + 128 ≤ (y 0).val
      omega
    · refine ⟨1, ?_⟩
      show (y 1).val < 128 * j.1.val ∨ 128 * j.1.val + 128 ≤ (y 1).val
      omega
  · generalize group (y 1) = g
    generalize (⟨(y 0).val / 128, _⟩ : Fin 2) = h
    revert g h; decide

theorem shiftPieces_apply (s : Fin 7 → FVec Ideal S288x1024 .f32) (y : S7x288x1024.Idx) :
    View.canon (shiftPieces s) y = s (y 0) (ix2 (y 1) (y 2)) := by
  refine (canon_map (s := S7x288x1024) (e := .f32) (fun j : Fin 7 => ![j.val, 0, 0]) S1x288x1024.size inb_shift
    (fun j => shapeCast S1x288x1024 (s j) shapeCasts_S288x1024_S1x288x1024) y (y 0) (ix3 0 (y 1) (y 2)) (fun a => ?_) (fun j hj => ⟨0, ?_⟩) _ ?_).trans ?_
  · fin_cases a
    · rfl
    · exact (Nat.zero_add _).symm
    · exact (Nat.zero_add _).symm
  · have : j.val ≠ (y 0).val := fun h => hj (Fin.ext h)
    show (y 0).val < j.val ∨ j.val + 1 ≤ (y 0).val
    omega
  · have all : ∀ k : Fin 7, k ∈ ([6, 5, 4, 3, 2, 1, 0] : List (Fin 7)) := by decide
    exact all (y 0)
  · pointwise

/-- The rows of the buffer of the gated rows: the block's own from row 32 on, elsewhere `h`. -/
def zRows (h : ℕ → Row) (z : Fin 256 → Row) (r : ℕ) : Row :=
  if hr : 32 ≤ r ∧ r < 288 then z ⟨r - 32, by omega⟩ else h r

section Rows

variable (arg2 : Memref sig .tc .vmem S1x256x1024 .f32) (harg2 : arg2.IsWhole)
  (arg3 : Memref sig .tc .vmem S1x6x1024 .f32) (harg3 : arg3.IsWhole)
  (arg4 : Memref sig .tc .vmem S1x1024 .f32) (harg4 : arg4.IsWhole)
  (arg5 : Memref sig .tc .vmem S1024x6144 .bf16) (harg5 : arg5.IsWhole)
  (arg18 : Memref sig .tc .vmem S296x1024 .f32) (harg18 : arg18.IsWhole)
  (x0 : Vec Ideal S1x256x1024 .f32) (x1 : Vec Ideal S1x6x1024 .f32) (x2 : Vec Ideal S1x1024 .f32)
  (x3 : Vec Ideal S1024x6144 .bf16) (xs0 : Vec Ideal S296x1024 .f32)

/-- The gated rows as rows. -/
def zOf (i : Fin 256) : Row := fun d => zval arg2 harg2 arg3 harg3 arg4 harg4 arg5 harg5 x0 x1 x2 x3 (ix2 i d)

/-- The rows before the block, from what the block before left. -/
def halo (i : ℕ) : Row := fun d => if h : i < 296 then xs0 (ix2 ⟨i, h⟩ d) else 0

theorem zOf_hit (h : ℕ → Row) (y : S296x1024.Idx) (h0 : 32 ≤ (y 0).val) (h1 : (y 0).val < 288) (L : List (View.Piece (Elt Ideal) S296x1024 .f32)) :
    View.canon (zPieces arg2 harg2 arg3 harg3 arg4 harg4 arg5 harg5 x0 x1 x2 x3 ++ L) y
      = zRows h (zOf arg2 harg2 arg3 harg3 arg4 harg4 arg5 harg5 x0 x1 x2 x3) (y 0).val (y 1) := by
  rw [zRows, dif_pos ⟨h0, h1⟩]
  refine canon_head (s := S296x1024) (e := .f32) _ _ _ _ _ y (ix2 ⟨(y 0).val - 32, by omega⟩ (y 1)) fun a => ?_
  fin_cases a
  · show (y 0).val = 32 + ((y 0).val - 32); omega
  · exact (Nat.zero_add _).symm

theorem zLoadC_apply (h : ℕ → Row) (B : LoadRect S296x1024) (x : B.shape.Idx) (h0 : 32 ≤ (B.idx x 0).val) (h1 : (B.idx x 0).val < 288) :
    zLoadC arg2 harg2 arg3 harg3 arg4 harg4 arg5 harg5 arg18 x0 x1 x2 x3 B x
      = zRows h (zOf arg2 harg2 arg3 harg3 arg4 harg4 arg5 harg5 x0 x1 x2 x3) (B.idx x 0).val (B.idx x 1) := by
  rw [zLoadC, View.readCov_eq_canon', ← List.append_nil (zPieces _ _ _ _ _ _ _ _ _ _ _ _)]
  exact zOf_hit arg2 harg2 arg3 harg3 arg4 harg4 arg5 harg5 x0 x1 x2 x3 h _ h0 h1 []

theorem zLoadA_apply (B : LoadRect S296x1024) (x : B.shape.Idx) :
    zLoadA arg2 harg2 arg3 harg3 arg4 harg4 arg5 harg5 arg18 x0 x1 x2 x3 B x
      = zRows (fun _ _ => 0) (zOf arg2 harg2 arg3 harg3 arg4 harg4 arg5 harg5 x0 x1 x2 x3) (B.idx x 0).val (B.idx x 1) := by
  rw [zLoadA, View.readCov_eq_canon']
  generalize hy : (B.idx x : S296x1024.Idx) = y
  show View.canon (zPiecesA arg2 harg2 arg3 harg3 arg4 harg4 arg5 harg5 x0 x1 x2 x3) (B.idx x) = _
  rw [hy]
  have hlt : (y 0).val < 296 := (y 0).isLt
  by_cases h : 32 ≤ (y 0).val ∧ (y 0).val < 288
  · exact zOf_hit arg2 harg2 arg3 harg3 arg4 harg4 arg5 harg5 x0 x1 x2 x3 _ y h.1 h.2 _
  · rw [zRows, dif_neg h]
    refine (canon_tail (s := S296x1024) (e := .f32) _ _ _ _ _ y 0 (show (y 0).val < 32 ∨ 32 + 256 ≤ (y 0).val by omega)).trans ?_
    by_cases h' : 288 ≤ (y 0).val
    · refine (canon_head (s := S296x1024) (e := .f32) _ _ _ _ _ y (ix2 ⟨(y 0).val - 288, by omega⟩ (y 1)) fun a => ?_).trans ?_
      · fin_cases a
        · show (y 0).val = 288 + ((y 0).val - 288); omega
        · exact (Nat.zero_add _).symm
      · pointwise [k0_pay3]
    · refine (canon_tail (s := S296x1024) (e := .f32) _ _ _ _ _ y 0 (show (y 0).val < 288 ∨ 288 + 8 ≤ (y 0).val by omega)).trans ?_
      refine (canon_head (s := S296x1024) (e := .f32) _ _ _ _ _ y (ix2 ⟨(y 0).val, by omega⟩ (y 1)) fun a => ?_).trans ?_
      · fin_cases a <;> exact (Nat.zero_add _).symm
      · pointwise [k0_pay2]

theorem zLoadB_apply (B : LoadRect S296x1024) (x : B.shape.Idx) :
    zLoadB arg2 harg2 arg3 harg3 arg4 harg4 arg5 harg5 arg18 harg18 x0 x1 x2 x3 xs0 B x
      = zRows (halo xs0) (zOf arg2 harg2 arg3 harg3 arg4 harg4 arg5 harg5 x0 x1 x2 x3) (B.idx x 0).val (B.idx x 1) := by
  show arg18.view.read (Elt Ideal) (arg18.view.writes (Elt Ideal) (harg18.unread xs0) (zPieces arg2 harg2 arg3 harg3 arg4 harg4 arg5 harg5 x0 x1 x2 x3)) (B.idx x) = _
  generalize (B.idx x : S296x1024.Idx) = y
  have hlt : (y 0).val < 296 := (y 0).isLt
  by_cases h : 32 ≤ (y 0).val ∧ (y 0).val < 288
  · rw [zRows, dif_pos h]
    refine View.read_writes_cons_unit_of_mem (s := S296x1024) (e := .f32) _ _ _ _ _ y (ix2 ⟨(y 0).val - 32, by omega⟩ (y 1)) rfl fun a => ?_
    fin_cases a
    · show (y 0).val = 32 + ((y 0).val - 32); omega
    · exact (Nat.zero_add _).symm
  · rw [zRows, dif_neg h]
    refine (View.read_writes_cons_unit_of_not_mem (s := S296x1024) (e := .f32) _ _ _ _ _ y rfl 0 (show (y 0).val < 32 ∨ 32 + 256 ≤ (y 0).val by omega)).trans ?_
    refine Eq.trans ?_ (dif_pos hlt).symm
    refine (congrFun (harg18.read_unread xs0) y).trans (congrArg xs0 (funext fun a => ?_))
    fin_cases a <;> rfl

end Rows

end Cert.Sub1
-- ==== Proof.Sub1.Block.lean ====
/- The convolution's and the spatial mixing's output within one block, over the extended reals. -/
module

public import proofs.«01_k».proof.Proof.Sub1.Buffers
public import Idealize.ShloMosaic.Lib.WholeRead

@[expose] public section

noncomputable section

namespace Cert.Sub1

open Cert.Kernel2Ideal Cert.Kernel2Ideal.Gen
open Idealize.ShloMosaic Idealize.ShloMosaic.TcCoe

/-! ## The loads, at an index -/

theorem ldX_apply (a : Memref sig .tc .vmem S1x256x1024 .f32) (ha : a.IsWhole) (x : Vec Ideal S1x256x1024 .f32) (i : Fin 256) (d : Fin 1024) :
    ldX a ha x (ix3 0 i d) = x (ix3 0 i d) := by
  refine (Memref.IsWhole.readAt_unread ha _ _ _).trans (congrArg x (funext fun a => ?_))
  fin_cases a <;> refine Fin.ext ?_
  · rfl
  · show 0 + 1 * i.val = i.val; omega
  · show 0 + 1 * d.val = d.val; omega

theorem ldMod_apply (a : Memref sig .tc .vmem S1x6x1024 .f32) (ha : a.IsWhole) (x : Vec Ideal S1x6x1024 .f32) (n : Fin 6) (d : Fin 1024) :
    ldMod a ha x n (ix3 0 0 d) = x (ix3 0 n d) := by
  refine (Memref.IsWhole.readAt_unread ha _ _ _).trans (congrArg x (funext fun a => ?_))
  fin_cases a <;> refine Fin.ext ?_
  · rfl
  · show n.val + 1 * 0 = n.val; omega
  · show 0 + 1 * d.val = d.val; omega

theorem ldRow_apply (a : Memref sig .tc .vmem S1x1024 .f32) (ha : a.IsWhole) (x : Vec Ideal S1x1024 .f32) (d : Fin 1024) :
    ldRow a ha x (ix2 0 d) = x (ix2 0 d) := by
  refine (Memref.IsWhole.readAt_unread ha _ _ _).trans (congrArg x (funext fun a => ?_))
  fin_cases a <;> refine Fin.ext ?_
  · rfl
  · show 0 + 1 * d.val = d.val; omega

theorem ldWin_apply (a : Memref sig .tc .vmem S1024x6144 .bf16) (ha : a.IsWhole) (x : Vec Ideal S1024x6144 .bf16) (n : Fin 6) (k e : Fin 1024) :
    ldWin a ha x n (ix2 k e) = x (ix2 k (part n e)) := by
  refine (Memref.IsWhole.readAt_unread ha _ _ _).trans (congrArg x (funext fun a => ?_))
  fin_cases a <;> refine Fin.ext ?_
  · show 0 + 1 * k.val = k.val; omega
  · show 1024 * n.val + 1 * e.val = 1024 * n.val + e.val; omega

theorem ldMat_apply (a : Memref sig .tc .vmem S1024x1024 .bf16) (ha : a.IsWhole) (x : Vec Ideal S1024x1024 .bf16) (k e : Fin 1024) :
    ldMat a ha x (ix2 k e) = x (ix2 k e) := by
  refine (Memref.IsWhole.readAt_unread ha _ _ _).trans (congrArg x (funext fun a => ?_))
  fin_cases a <;> refine Fin.ext ?_
  · show 0 + 1 * k.val = k.val; omega
  · show 0 + 1 * e.val = e.val; omega

theorem ldTap_apply (a : Memref sig .tc .vmem S31x1024 .f32) (ha : a.IsWhole) (x : Vec Ideal S31x1024 .f32) (k : Fin 31) (d : Fin 1024) :
    ldTap a ha x k (ix2 0 d) = x (ix2 k d) := by
  refine (Memref.IsWhole.readAt_unread ha _ _ _).trans (congrArg x (funext fun a => ?_))
  fin_cases a <;> refine Fin.ext ?_
  · show k.val + 1 * 0 = k.val; omega
  · show 0 + 1 * d.val = d.val; omega

theorem ldSp_apply (a : Memref sig .tc .vmem S8x128x128 .f32) (ha : a.IsWhole) (x : Vec Ideal S8x128x128 .f32) (g : Fin 8) (i j : Fin 128) :
    ldSp a ha x g (ix3 0 i j) = x (ix3 g i j) := by
  refine (Memref.IsWhole.readAt_unread ha _ _ _).trans (congrArg x (funext fun a => ?_))
  fin_cases a <;> refine Fin.ext ?_
  · show g.val + 1 * 0 = g.val; omega
  · show 0 + 1 * i.val = i.val; omega
  · show 0 + 1 * j.val = j.val; omega

theorem ldSb_apply (a : Memref sig .tc .vmem S128x1024 .f32) (ha : a.IsWhole) (x : Vec Ideal S128x1024 .f32) (g : Fin 8) (i e : Fin 128) :
    ldSb a ha x g (ix2 i e) = x (ix2 i ⟨128 * g.val + e.val, by omega⟩) := by
  refine (Memref.IsWhole.readAt_unread ha _ _ _).trans (congrArg x (funext fun a => ?_))
  fin_cases a <;> refine Fin.ext ?_
  · show 0 + 1 * i.val = i.val; omega
  · show 128 * g.val + 1 * e.val = 128 * g.val + e.val; omega

/-! ## The taps -/

/-- A way `z` of loading rows of the buffer of the gated rows reads the rows `R`. -/
def Reads (z : (B : LoadRect S296x1024) → B.shape.Idx → EReal) (R : ℕ → Row) : Prop :=
  ∀ B x, z B x = R (B.idx x 0).val (B.idx x 1)

/-- It does so from row 32 on, up to the last of the block's own rows. -/
def ReadsIn (z : (B : LoadRect S296x1024) → B.shape.Idx → EReal) (R : ℕ → Row) : Prop :=
  ∀ B x, 32 ≤ (B.idx x 0).val → (B.idx x 0).val < 288 → z B x = R (B.idx x 0).val (B.idx x 1)

theorem Reads.readsIn {z : (B : LoadRect S296x1024) → B.shape.Idx → EReal} {R : ℕ → Row} (h : Reads z R) : ReadsIn z R :=
  fun B x _ _ => h B x

theorem Reads.rows {z : (B : LoadRect S296x1024) → B.shape.Idx → EReal} {R : ℕ → Row} (h : Reads z R) (q : ℕ) (hq : q + 32 ≤ 288)
    (i : Fin 32) (d : Fin 1024) :
    z (Rect.unit (s := S296x1024) ![q, 0] S32x1024.size (inb_z q hq)).toLoadRect (ix2 i d) = R (q + i.val) d :=
  (h _ _).trans (congr (congrArg R (show q + 1 * i.val = q + i.val by omega)) (Fin.ext (show 0 + 1 * d.val = d.val by omega)))

theorem ReadsIn.rows {z : (B : LoadRect S296x1024) → B.shape.Idx → EReal} {R : ℕ → Row} (h : ReadsIn z R) (q : ℕ) (hq : q + 32 ≤ 288)
    (h0 : 32 ≤ q) (i : Fin 32) (d : Fin 1024) :
    z (Rect.unit (s := S296x1024) ![q, 0] S32x1024.size (inb_z q hq)).toLoadRect (ix2 i d) = R (q + i.val) d :=
  (h (Rect.unit (s := S296x1024) ![q, 0] S32x1024.size (inb_z q hq)).toLoadRect (ix2 i d) (show 32 ≤ q + 1 * i.val by omega) (show q + 1 * i.val < 288 by omega)).trans
    (congr (congrArg R (show q + 1 * i.val = q + i.val by omega)) (Fin.ext (show 0 + 1 * d.val = d.val by omega)))

theorem tapLoads_apply (arg19 : Memref sig .tc .vmem S7x288x1024 .f32) {z z' : (B : LoadRect S296x1024) → B.shape.Idx → EReal} {R : ℕ → Row}
    (hz : Reads z R) (hz' : ReadsIn z' R) (ci : Fin 8) (k : Fin 31) (i : Fin 32) (d : Fin 1024) :
    tapLoads arg19 z z' ci k (ix2 i d) = R (32 * ci.val + i.val + (2 + k.val)) d := by
  unfold tapLoads tap
  have hb := base_le ci k
  by_cases h : (2 + k.val) % 8 = 0
  · rw [dif_pos h]
    dsimp only
    have e : 32 * ci.val + 8 * ((2 + k.val) / 8) + i.val = 32 * ci.val + i.val + (2 + k.val) := by omega
    by_cases hq : 32 ≤ 32 * ci.val + 8 * ((2 + k.val) / 8)
    · rw [if_pos hq, hz'.rows _ hb hq, e]
    · rw [if_neg hq, hz.rows _ hb, e]
  · rw [dif_neg h]
    pointwise
    rw [View.readCov_eq_canon']
    refine (shiftPieces_apply _ _).trans ((hz _ _).trans (congr (congrArg R ?_) (Fin.ext ?_)))
    · show (2 + k.val) % 8 - 1 + 1 * 0 + 1 + 1 * (32 * ci.val + 8 * ((2 + k.val) / 8) + 1 * i.val) = _
      omega
    · show 0 + 1 * (0 + 1 * d.val) = d.val
      omega

theorem whole_idx (i : Fin 256) (d : Fin 1024) :
    (Rect.unit (s := S256x1024) ![0, 0] S256x1024.size inb_S256x1024_S256x1024_0_0).toLoadRect.idx (ix2 i d) = ix2 i d := by
  funext a; fin_cases a <;> refine Fin.ext ?_
  · show 0 + 1 * i.val = i.val; omega
  · show 0 + 1 * d.val = d.val; omega

/-! ## The convolution's output -/

theorem conv_apply (arg6 : Memref sig .tc .vmem S31x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg19 : Memref sig .tc .vmem S7x288x1024 .f32) (arg20 : Memref sig .tc .vmem S256x1024 .bf16)
    (x4 : Vec Ideal S31x1024 .f32) (x5 x6 x7 : Vec Ideal S1x1024 .f32)
    {z z' : (B : LoadRect S296x1024) → B.shape.Idx → EReal} {R : ℕ → Row} (hz : Reads z R) (hz' : ReadsIn z' R)
    (i : Fin 256) (d : Fin 1024) :
    arg20.view.readCov (convPieces arg6 harg6 arg7 harg7 arg8 harg8 arg9 harg9 arg19 x4 x5 x6 x7 z z')
        (Rect.unit (s := S256x1024) ![0, 0] S256x1024.size inb_S256x1024_S256x1024_0_0).toLoadRect (ix2 i d)
      = silu (layerNorm (convRow (row1 x5) (fun k e => x4 (ix2 k e)) (fun k => R (i.val + (2 + k.val)))) (row1 x6) (row1 x7)) d := by
  rw [View.readCov_eq_canon', convPieces]
  refine (congrArg (View.canon _) (whole_idx i d)).trans ((chunkPieces_apply _ (ix2 i d)).trans ?_)
  refine (chunk_apply _ _ _ _ _ ⟨i.val % 32, by omega⟩ d).trans ?_
  have hi : ∀ k : Fin 31, 32 * (i.val / 32) + i.val % 32 + (2 + k.val) = i.val + (2 + k.val) := fun k => by omega
  have hr : ∀ (a : Memref sig .tc .vmem S1x1024 .f32) (ha : a.IsWhole) (x : Vec Ideal S1x1024 .f32), row1 (ldRow a ha x) = row1 x :=
    fun a ha x => funext (ldRow_apply a ha x)
  have hw : (fun k : Fin 31 => row1 (ldTap arg6 harg6 x4 k)) = fun k e => x4 (ix2 k e) := funext fun k => funext (ldTap_apply arg6 harg6 x4 k)
  have ht : (fun (k : Fin 31) (e : Fin 1024) => tapLoads arg19 z z' ⟨i.val / 32, by omega⟩ k (ix2 ⟨i.val % 32, by omega⟩ e)) = fun k => R (i.val + (2 + k.val)) :=
    funext fun k => funext fun e => (tapLoads_apply arg19 hz hz' _ k _ e).trans (congrFun (congrArg R (hi k)) e)
  rw [hr, hr, hr, hw]
  exact congrFun (congrArg (fun t => silu (layerNorm (convRow _ _ t) _ _)) ht) d

/-! ## The mixing's output -/

section Mix

variable (arg2 : Memref sig .tc .vmem S1x256x1024 .f32) (harg2 : arg2.IsWhole)
  (arg3 : Memref sig .tc .vmem S1x6x1024 .f32) (harg3 : arg3.IsWhole)
  (arg4 : Memref sig .tc .vmem S1x1024 .f32) (harg4 : arg4.IsWhole)
  (arg5 : Memref sig .tc .vmem S1024x6144 .bf16) (harg5 : arg5.IsWhole)
  (arg11 : Memref sig .tc .vmem S1x1024 .f32) (harg11 : arg11.IsWhole)
  (arg12 : Memref sig .tc .vmem S1x1024 .f32) (harg12 : arg12.IsWhole)
  (arg13 : Memref sig .tc .vmem S8x128x128 .f32) (harg13 : arg13.IsWhole)
  (arg14 : Memref sig .tc .vmem S128x1024 .f32) (harg14 : arg14.IsWhole)
  (arg21 : Memref sig .tc .vmem S256x1024 .bf16) (arg22 : Memref sig .tc .vmem S256x1024 .f32)
  (x0 : Vec Ideal S1x256x1024 .f32) (x1 : Vec Ideal S1x6x1024 .f32) (x2 : Vec Ideal S1x1024 .f32) (x3 : Vec Ideal S1024x6144 .bf16)
  (x9 x10 : Vec Ideal S1x1024 .f32) (x11 : Vec Ideal S8x128x128 .f32) (x12 : Vec Ideal S128x1024 .f32)

theorem vTile_apply (g : Fin 8) (h : Fin 2) (j e : Fin 128) :
    vTile arg2 harg2 arg3 harg3 arg4 harg4 arg5 harg5 arg11 harg11 arg12 harg12 arg21 x0 x1 x2 x3 x9 x10 g h (ix2 j e)
      = vval arg2 harg2 arg3 harg3 arg4 harg4 arg5 harg5 arg11 harg11 arg12 harg12 x0 x1 x2 x3 x9 x10
          (ix2 ⟨128 * h.val + j.val, by omega⟩ ⟨128 * g.val + e.val, by omega⟩) := by
  rw [vTile, View.readCov_eq_canon']
  refine canon_head (s := S256x1024) (e := .bf16) _ _ _ _ _ _ _ fun a => ?_
  fin_cases a
  · show 128 * h.val + 1 * j.val = 0 + (128 * h.val + j.val); omega
  · show 128 * g.val + 1 * e.val = 0 + (128 * g.val + e.val); omega

theorem mix_apply (i : Fin 256) (d : Fin 1024) (b : Fin 8 → Fin 128 → EReal) (hb : ∀ i d, x12 (ix2 i d) = b (group d) i) :
    arg22.view.readCov (mixPieces arg2 harg2 arg3 harg3 arg4 harg4 arg5 harg5 arg11 harg11 arg12 harg12 arg13 harg13 arg14 harg14 arg21 x0 x1 x2 x3 x9 x10 x11 x12)
        (Rect.unit (s := S256x1024) ![0, 0] S256x1024.size inb_S256x1024_S256x1024_0_0).toLoadRect (ix2 i d)
      = mixRow (fun g i j => x11 (ix3 g i j)) b ⟨i.val % 128, by omega⟩
          (fun j e => vval arg2 harg2 arg3 harg3 arg4 harg4 arg5 harg5 arg11 harg11 arg12 harg12 x0 x1 x2 x3 x9 x10
            (ix2 ⟨128 * (i.val / 128) + j.val, by omega⟩ e)) d := by
  rw [View.readCov_eq_canon']
  refine (congrArg (View.canon _) (whole_idx i d)).trans ((tilePieces_apply _ (ix2 i d)).trans ((tile_apply _ _ _ _ _).trans ?_))
  have ed : (⟨128 * (group d).val + d.val % 128, by have := (group d).isLt; omega⟩ : Fin 1024) = d :=
    Fin.ext (by show 128 * (d.val / 128) + d.val % 128 = d.val; omega)
  simp only [ldSp_apply, ldSb_apply, vTile_apply]
  show (∑ j : Fin 128, (if reaches ⟨i.val % 128, _⟩ j then x11 (ix3 (group d) ⟨i.val % 128, _⟩ j) else 0) * vval _ _ _ _ _ _ _ _ _ _ _ _ _ _ _ _ _ _ (ix2 _ ⟨128 * (group d).val + d.val % 128, _⟩)) + x12 (ix2 ⟨i.val % 128, _⟩ ⟨128 * (group d).val + d.val % 128, _⟩) = _
  rw [ed, hb]
  rfl

end Mix

end Cert.Sub1
-- ==== Proof.Sub1.Points.lean ====
/- What one point of the grid leaves in the output's block and in the buffer of the gated rows, over the extended reals. -/
module

public import proofs.«01_k».proof.Proof.Sub1.Block

@[expose] public section

set_option maxRecDepth 100000

noncomputable section

namespace Cert.Sub1

open Cert.Kernel2Ideal Cert.Kernel2Ideal.Gen
open Idealize.ShloMosaic Idealize.ShloMosaic.TcCoe

variable (c : Dev nD) (i : grid0.Coords)
  (arg2 : Memref sig .tc .vmem S1x256x1024 .f32) (harg2 : arg2.IsWhole)
  (arg3 : Memref sig .tc .vmem S1x6x1024 .f32) (harg3 : arg3.IsWhole)
  (arg4 : Memref sig .tc .vmem S1x1024 .f32) (harg4 : arg4.IsWhole)
  (arg5 : Memref sig .tc .vmem S1024x6144 .bf16) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S8x128x128 .f32) (harg13 : arg13.IsWhole)
  (arg14 : Memref sig .tc .vmem S128x1024 .f32) (harg14 : arg14.IsWhole)
  (arg15 : Memref sig .tc .vmem S1024x1024 .bf16) (harg15 : arg15.IsWhole)
  (arg16 : Memref sig .tc .vmem S1024x1024 .bf16) (harg16 : arg16.IsWhole)
  (arg17 : Memref sig .tc .vmem S1x256x1024 .f32) (harg17 : arg17.IsWhole)
  (arg18 : Memref sig .tc .vmem S296x1024 .f32) (harg18 : arg18.IsWhole)
  (arg19 : Memref sig .tc .vmem S7x288x1024 .f32) (harg19 : arg19.IsWhole)
  (arg20 : Memref sig .tc .vmem S256x1024 .bf16) (harg20 : arg20.IsWhole)
  (arg21 : Memref sig .tc .vmem S256x1024 .bf16) (harg21 : arg21.IsWhole)
  (arg22 : Memref sig .tc .vmem S256x1024 .f32) (harg22 : arg22.IsWhole)
  (x0 : Vec Ideal S1x256x1024 .f32)  (x1 : Vec Ideal S1x6x1024 .f32)
  (x2 : Vec Ideal S1x1024 .f32)  (x3 : Vec Ideal S1024x6144 .bf16)  (x4 : Vec Ideal S31x1024 .f32)
  (x5 : Vec Ideal S1x1024 .f32)  (x6 : Vec Ideal S1x1024 .f32)  (x7 : Vec Ideal S1x1024 .f32)
  (x8 : Vec Ideal S1024x1024 .bf16)  (x9 : Vec Ideal S1x1024 .f32)  (x10 : Vec Ideal S1x1024 .f32)
  (x11 : Vec Ideal S8x128x128 .f32)  (x12 : Vec Ideal S128x1024 .f32)  (x13 : Vec Ideal S1024x1024 .bf16)
  (x14 : Vec Ideal S1024x1024 .bf16) (xs0 : Vec Ideal S296x1024 .f32)

/-- The weights, from the windows that hold them and the spatial bias by groups. -/
def wts (b : Fin 8 → Fin 128 → EReal) : Weights where
  g1 := row1 x2
  win n k e := x3 (ix2 k (part n e))
  dww k d := x4 (ix2 k d)
  dwb := row1 x5
  clg := row1 x6
  clb := row1 x7
  wco := mat x8
  slg := row1 x9
  slb := row1 x10
  wsp g i j := x11 (ix3 g i j)
  bsp := b
  wso := mat x13
  wout := mat x14

/-- The normalized row `i` of a block. -/
def nRow (i : Fin 256) : Row := rmsMod (fun k => x0 (ix3 0 i k)) (row1 x2) (fun k => x1 (ix3 0 1 k)) (fun k => x1 (ix3 0 0 k))

theorem ldRow_eq (a : Memref sig .tc .vmem S1x1024 .f32) (ha : a.IsWhole) (x : Vec Ideal S1x1024 .f32) : row1 (ldRow a ha x) = row1 x :=
  funext (ldRow_apply a ha x)

theorem ldMat_eq (a : Memref sig .tc .vmem S1024x1024 .bf16) (ha : a.IsWhole) (x : Vec Ideal S1024x1024 .bf16) : mat (ldMat a ha x) = mat x :=
  funext fun k => funext (ldMat_apply a ha x k)

theorem ldWin_eq (n : Fin 6) : mat (ldWin arg5 harg5 x3 n) = fun k e => x3 (ix2 k (part n e)) :=
  funext fun k => funext (ldWin_apply arg5 harg5 x3 n k)

theorem nrm_eq (i : Fin 256) : (fun d => nrm arg2 harg2 arg3 harg3 arg4 harg4 x0 x1 x2 (ix2 i d)) = nRow x0 x1 x2 i := funext fun d => by
  rw [nrm, norm_apply, ldRow_eq, nRow]
  simp only [ldX_apply, ldMod_apply]

theorem zOf_eq (b : Fin 8 → Fin 128 → EReal) (i : Fin 256) :
    zOf arg2 harg2 arg3 harg3 arg4 harg4 arg5 harg5 x0 x1 x2 x3 i = (wts x2 x3 x4 x5 x6 x7 x8 x9 x10 x11 x13 x14 b).z (nRow x0 x1 x2 i) := funext fun d => by
  rw [zOf, zval, gated_apply, nrm_eq, ldWin_eq, ldWin_eq]
  rfl

theorem vval_eq (b : Fin 8 → Fin 128 → EReal) (i : Fin 256) :
    (fun d => vval arg2 harg2 arg3 harg3 arg4 harg4 arg5 harg5 arg11 harg11 arg12 harg12 x0 x1 x2 x3 x9 x10 (ix2 i d)) = (wts x2 x3 x4 x5 x6 x7 x8 x9 x10 x11 x13 x14 b).v (nRow x0 x1 x2 i) := funext fun d => by
  rw [vval, value_apply, nrm_eq, ldWin_eq, ldRow_eq, ldRow_eq]
  rfl

/-- The block of the output, from the convolution's and the mixing's output. -/
def outVal (cv : Vec Ideal S256x1024 .bf16) (mx : Vec Ideal S256x1024 .f32) : Vec Ideal S1x256x1024 .f32 :=
  k0_pay1 (k0_pay4 (ldX arg2 harg2 x0)) (k0_pay5 (ldMod arg3 harg3 x1 2))
    (k0_pay132 (k0_pay129 cv (ldMat arg10 harg10 x8)) (k0_pay130 (nrm arg2 harg2 arg3 harg3 arg4 harg4 x0 x1 x2) (ldWin arg5 harg5 x3 4)) k0_pay131)
    (k0_pay164 (nrm arg2 harg2 arg3 harg3 arg4 harg4 x0 x1 x2) (ldWin arg5 harg5 x3 2) mx (ldMat arg15 harg15 x13))
    (k0_pay165 (nrm arg2 harg2 arg3 harg3 arg4 harg4 x0 x1 x2) (ldWin arg5 harg5 x3 5)) k0_pay166 (ldMat arg16 harg16 x14)

theorem outVal_apply (b : Fin 8 → Fin 128 → EReal) (cv : Vec Ideal S256x1024 .bf16) (mx : Vec Ideal S256x1024 .f32) (i : Fin 256) (d : Fin 1024)
    (t : Fin 31 → Row) (mix : Row)
    (hcv : ∀ e, cv (ix2 i e) = silu (layerNorm (convRow (row1 x5) (fun k e => x4 (ix2 k e)) t) (row1 x6) (row1 x7)) e)
    (hmx : ∀ e, mx (ix2 i e) = mix e) :
    outVal arg2 harg2 arg3 harg3 arg4 harg4 arg5 harg5 arg10 harg10 arg15 harg15 arg16 harg16 x0 x1 x2 x3 x8 x13 x14 cv mx (ix3 0 i d)
      = (wts x2 x3 x4 x5 x6 x7 x8 x9 x10 x11 x13 x14 b).out (fun k => x0 (ix3 0 i k)) (fun k => x1 (ix3 0 2 k)) (nRow x0 x1 x2 i) t mix d := by
  rw [outVal, out_apply]
  simp only [gateA_apply, branchA_apply, branchB_apply, ldX_apply, ldMod_apply, nrm_eq, ldWin_eq, ldMat_eq, hcv, hmx]
  rfl

theorem run_B (hc0 : ¬cond0_0 i) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22  hc0 x0 x1 x2 x3 x4 x5 x6 x7 x8 x9 x10 x11 x12 x13 x14  xs0).1
      = [⟨Rect.unit (s := S1x256x1024) ![0, 0, 0] S1x256x1024.size inb_S1x256x1024_S1x256x1024_0_0_0,
          outVal arg2 harg2 arg3 harg3 arg4 harg4 arg5 harg5 arg10 harg10 arg15 harg15 arg16 harg16 x0 x1 x2 x3 x8 x13 x14
            (kernelRun0_B.sl.v1857 c arg2 harg2 arg3 harg3 arg4 harg4 arg5 harg5 arg6 harg6 arg7 harg7 arg8 harg8 arg9 harg9 arg18 harg18 arg19 arg20 x0 x1 x2 x3 x4 x5 x6 x7 xs0)
            (kernelRun0_B.sl.v2125 c arg2 harg2 arg3 harg3 arg4 harg4 arg5 harg5 arg11 harg11 arg12 harg12 arg13 harg13 arg14 harg14 arg21 arg22 x0 x1 x2 x3 x9 x10 x11 x12)⟩] := by
  unfold kernelRun0_B
  rfl

theorem run_A (hc0 : cond0_0 i) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22  hc0 x0 x1 x2 x3 x4 x5 x6 x7 x8 x9 x10 x11 x12 x13 x14 ).1
      = [⟨Rect.unit (s := S1x256x1024) ![0, 0, 0] S1x256x1024.size inb_S1x256x1024_S1x256x1024_0_0_0,
          outVal arg2 harg2 arg3 harg3 arg4 harg4 arg5 harg5 arg10 harg10 arg15 harg15 arg16 harg16 x0 x1 x2 x3 x8 x13 x14
            (kernelRun0_A.sl.v1857 c arg2 harg2 arg3 harg3 arg4 harg4 arg5 harg5 arg6 harg6 arg7 harg7 arg8 harg8 arg9 harg9 arg18 arg19 arg20 x0 x1 x2 x3 x4 x5 x6 x7)
            (kernelRun0_A.sl.v2125 c arg2 harg2 arg3 harg3 arg4 harg4 arg5 harg5 arg11 harg11 arg12 harg12 arg13 harg13 arg14 harg14 arg21 arg22 x0 x1 x2 x3 x9 x10 x11 x12)⟩] := by
  unfold kernelRun0_A
  rfl

theorem kept_B (hc0 : ¬cond0_0 i) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22  hc0 x0 x1 x2 x3 x4 x5 x6 x7 x8 x9 x10 x11 x12 x13 x14  xs0).2.1
      = ⟨Rect.unit (s := S296x1024) ![0, 0] S32x1024.size inb_S296x1024_S32x1024_0_0,
          (k0_pay128 (F := Ideal) (zLoadC arg2 harg2 arg3 harg3 arg4 harg4 arg5 harg5 arg18 x0 x1 x2 x3 (Rect.unit (s := S296x1024) ![256, 0] S32x1024.size inb_S296x1024_S32x1024_256_0).toLoadRect) : FVec Ideal S32x1024 .f32)⟩
        :: zPieces arg2 harg2 arg3 harg3 arg4 harg4 arg5 harg5 x0 x1 x2 x3 := by
  unfold kernelRun0_B
  rfl

theorem kept_A (hc0 : cond0_0 i) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22  hc0 x0 x1 x2 x3 x4 x5 x6 x7 x8 x9 x10 x11 x12 x13 x14 ).2.1
      = ⟨Rect.unit (s := S296x1024) ![0, 0] S32x1024.size inb_S296x1024_S32x1024_0_0,
          (k0_pay128 (F := Ideal) (zLoadA arg2 harg2 arg3 harg3 arg4 harg4 arg5 harg5 arg18 x0 x1 x2 x3 (Rect.unit (s := S296x1024) ![256, 0] S32x1024.size inb_S296x1024_S32x1024_256_0).toLoadRect) : FVec Ideal S32x1024 .f32)⟩
        :: zPiecesA arg2 harg2 arg3 harg3 arg4 harg4 arg5 harg5 x0 x1 x2 x3 := by
  unfold kernelRun0_A
  rfl

/-- The rows of the buffer of the gated rows in terms of the block's normalized rows. -/
abbrev zR (b : Fin 8 → Fin 128 → EReal) (h : ℕ → Row) : ℕ → Row :=
  zRows h fun i => (wts x2 x3 x4 x5 x6 x7 x8 x9 x10 x11 x13 x14 b).z (nRow x0 x1 x2 i)

/-- The output at row `i` of a block whose buffer of the gated rows holds `h` before the block's own rows. -/
def outRow (b : Fin 8 → Fin 128 → EReal) (h : ℕ → Row) (i : Fin 256) : Row :=
  (wts x2 x3 x4 x5 x6 x7 x8 x9 x10 x11 x13 x14 b).out (fun k => x0 (ix3 0 i k)) (fun k => x1 (ix3 0 2 k)) (nRow x0 x1 x2 i)
    (fun k => zR x0 x1 x2 x3 x4 x5 x6 x7 x8 x9 x10 x11 x13 x14 b h (i.val + (2 + k.val)))
    (mixRow (fun g i j => x11 (ix3 g i j)) b ⟨i.val % 128, by omega⟩ fun j =>
      (wts x2 x3 x4 x5 x6 x7 x8 x9 x10 x11 x13 x14 b).v (nRow x0 x1 x2 ⟨128 * (i.val / 128) + j.val, by omega⟩))

theorem out_B (hc0 : ¬cond0_0 i) (b : Fin 8 → Fin 128 → EReal) (hb : ∀ i d, x12 (ix2 i d) = b (group d) i) (r : Fin 256) (d : Fin 1024) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22  hc0 x0 x1 x2 x3 x4 x5 x6 x7 x8 x9 x10 x11 x12 x13 x14  xs0 (ix3 0 r d)
      = outRow x0 x1 x2 x3 x4 x5 x6 x7 x8 x9 x10 x11 x13 x14 b (halo xs0) r d := by
  rw [out0_B_15, run_B, View.read_writes_junk_eq_canon, View.canon_unit_zero (by funext a; fin_cases a <;> rfl)]
  have hv := vval_eq arg2 harg2 arg3 harg3 arg4 harg4 arg5 harg5 arg11 harg11 arg12 harg12 x0 x1 x2 x3 x4 x5 x6 x7 x8 x9 x10 x11 x13 x14 b
  have hz := funext (zOf_eq arg2 harg2 arg3 harg3 arg4 harg4 arg5 harg5 x0 x1 x2 x3 x4 x5 x6 x7 x8 x9 x10 x11 x13 x14 b)
  refine outVal_apply (x9 := x9) (x10 := x10) (x11 := x11) (b := b) (hcv := fun e => ?_) (hmx := fun e => ?_) ..
  · rw [kernelRun0_B.sl.v1857, conv_B]
    refine conv_apply _ _ _ _ _ _ _ _ _ _ _ _ _ _ (R := zR x0 x1 x2 x3 x4 x5 x6 x7 x8 x9 x10 x11 x13 x14 b (halo xs0)) (fun B x => ?_) (fun B x h0 h1 => ?_) r e
    · rw [zLoadB_apply, hz]
    · rw [zLoadC_apply (h := halo xs0) (h0 := h0) (h1 := h1), hz]
  · rw [kernelRun0_B.sl.v2125, mix_B, mix_apply (b := b) (hb := hb)]
    simp only [← hv]

theorem out_A (hc0 : cond0_0 i) (b : Fin 8 → Fin 128 → EReal) (hb : ∀ i d, x12 (ix2 i d) = b (group d) i) (r : Fin 256) (d : Fin 1024) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22  hc0 x0 x1 x2 x3 x4 x5 x6 x7 x8 x9 x10 x11 x12 x13 x14  (ix3 0 r d)
      = outRow x0 x1 x2 x3 x4 x5 x6 x7 x8 x9 x10 x11 x13 x14 b (fun _ _ => 0) r d := by
  rw [out0_A_15, run_A, View.read_writes_junk_eq_canon, View.canon_unit_zero (by funext a; fin_cases a <;> rfl)]
  have hv := vval_eq arg2 harg2 arg3 harg3 arg4 harg4 arg5 harg5 arg11 harg11 arg12 harg12 x0 x1 x2 x3 x4 x5 x6 x7 x8 x9 x10 x11 x13 x14 b
  have hz := funext (zOf_eq arg2 harg2 arg3 harg3 arg4 harg4 arg5 harg5 x0 x1 x2 x3 x4 x5 x6 x7 x8 x9 x10 x11 x13 x14 b)
  refine outVal_apply (x9 := x9) (x10 := x10) (x11 := x11) (b := b) (hcv := fun e => ?_) (hmx := fun e => ?_) ..
  · rw [kernelRun0_A.sl.v1857, conv_A]
    have hR : Reads (zLoadA arg2 harg2 arg3 harg3 arg4 harg4 arg5 harg5 arg18 x0 x1 x2 x3) (zR x0 x1 x2 x3 x4 x5 x6 x7 x8 x9 x10 x11 x13 x14 b (fun _ _ => 0)) :=
      fun B x => by rw [zLoadA_apply, hz]
    exact conv_apply _ _ _ _ _ _ _ _ _ _ _ _ _ _ hR hR.readsIn r e
  · rw [kernelRun0_A.sl.v2125, mix_A, mix_apply (b := b) (hb := hb)]
    simp only [← hv]

/-- What a point leaves in the first 32 rows: the last 32 of its own gated rows. -/
theorem keeps_B (hc0 : ¬cond0_0 i) (b : Fin 8 → Fin 128 → EReal) (r : Fin 32) (d : Fin 1024) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22  hc0 x0 x1 x2 x3 x4 x5 x6 x7 x8 x9 x10 x11 x12 x13 x14  xs0 (ix2 ⟨r.val, by omega⟩ d)
      = (wts x2 x3 x4 x5 x6 x7 x8 x9 x10 x11 x13 x14 b).z (nRow x0 x1 x2 ⟨224 + r.val, by omega⟩) d := by
  rw [sout0_B_0, kept_B, ← zOf_eq arg2 harg2 arg3 harg3 arg4 harg4 arg5 harg5 x0 x1 x2 x3 x4 x5 x6 x7 x8 x9 x10 x11 x13 x14 b]
  refine (View.read_writes_cons_unit_of_mem (s := S296x1024) (e := .f32) _ _ _ _ _ _ (ix2 r d) rfl fun a => ?_).trans ?_
  · fin_cases a <;> exact (Nat.zero_add _).symm
  · pointwise [k0_pay128]
    refine (zLoadC_apply _ _ _ _ _ _ _ _ _ _ _ _ _ (fun _ _ => 0) (Rect.unit (s := S296x1024) ![256, 0] S32x1024.size inb_S296x1024_S32x1024_256_0).toLoadRect (ix2 r d) (show 32 ≤ 256 + 1 * r.val by omega) (show 256 + 1 * r.val < 288 by omega)).trans ?_
    refine (congrFun (dif_pos ⟨show 32 ≤ 256 + 1 * r.val by omega, show 256 + 1 * r.val < 288 by omega⟩) _).trans (congr (congrArg _ (Fin.ext ?_)) (Fin.ext ?_))
    · show 256 + 1 * r.val - 32 = 224 + r.val; omega
    · show 0 + 1 * d.val = d.val; omega

theorem keeps_A (hc0 : cond0_0 i) (b : Fin 8 → Fin 128 → EReal) (r : Fin 32) (d : Fin 1024) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22  hc0 x0 x1 x2 x3 x4 x5 x6 x7 x8 x9 x10 x11 x12 x13 x14  (ix2 ⟨r.val, by omega⟩ d)
      = (wts x2 x3 x4 x5 x6 x7 x8 x9 x10 x11 x13 x14 b).z (nRow x0 x1 x2 ⟨224 + r.val, by omega⟩) d := by
  rw [sout0_A_0, kept_A, ← zOf_eq arg2 harg2 arg3 harg3 arg4 harg4 arg5 harg5 x0 x1 x2 x3 x4 x5 x6 x7 x8 x9 x10 x11 x13 x14 b]
  refine (View.read_writes_cons_unit_of_mem (s := S296x1024) (e := .f32) _ _ _ _ _ _ (ix2 r d) rfl fun a => ?_).trans ?_
  · fin_cases a <;> exact (Nat.zero_add _).symm
  · pointwise [k0_pay128]
    refine (zLoadA_apply _ _ _ _ _ _ _ _ _ _ _ _ _ _ _).trans ?_
    refine (congrFun (dif_pos ⟨show 32 ≤ 256 + 1 * r.val by omega, show 256 + 1 * r.val < 288 by omega⟩) _).trans (congr (congrArg _ (Fin.ext ?_)) (Fin.ext ?_))
    · show 256 + 1 * r.val - 32 = 224 + r.val; omega
    · show 0 + 1 * d.val = d.val; omega

end Cert.Sub1
-- ==== Proof.Sub1.Host.lean ====
/- What the windows show of the arguments: the arrays that the host prepares for the kernel, index by index, and the block
   that each window takes of them. -/
module

public import proofs.«01_k».proof.Proof.Sub1.Points
public import proofs.«01_k».proof.Proof.Gen.Kernel2Ideal.Frame
public import Idealize.ShloMosaic.Lib.Pipeline.ValueKit

@[expose] public section

set_option maxRecDepth 100000

noncomputable section

namespace Cert.Sub1

open Cert.Kernel2Ideal Cert.Kernel2Ideal.Gen
open Idealize.ShloMosaic Idealize.ShloMosaic.TcCoe

/-! ### A row as a matrix of one row -/

theorem asRow_apply (x : S1024.Idx → EReal) (d : Fin 1024) : shapeCast S1x1024 x shapeCasts_S1024_S1x1024 (ix2 0 d) = x (ix1 d) :=
  shapeCast_apply x shapeCasts_S1024_S1x1024 (ix2 0 d) (ix1 d) (by
    rewrite [Shape.rowMajor_val_two, Shape.rowMajor_val_one]; show d.val = 0 * 1024 + d.val; omega)

variable (m : (ℓ : Loc nD τ sig) → Buf (Elt Ideal) ℓ) (c : Dev nD)

/-! ### What the host prepares -/

theorem V_main_v0 : (V m c main_v0 : Vec Ideal S8x6x1024 .f32) = shapeCast S8x6x1024 (m ((c : Thread nD τ).loc main_arg1)) shapeCasts_S8x6144_S8x6x1024 := by
  show StableHlo.after hostOps0 _ _ = _
  after_results_simp; rfl
theorem V_main_v3 : (V m c main_v3 : Vec Ideal S128x1024 .f32) = shapeCast S128x1024 (broadcastInDim S128x8x128 ![0, 1] bcast_S128x8_S128x8x128_0_1 (transpose S128x8 [1, 0] (m ((c : Thread nD τ).loc main_arg12)) transposes_S8x128_S128x8_1_0)) shapeCasts_S128x8x128_S128x1024 := by
  show StableHlo.after hostOps0 _ _ = _
  after_results_simp; rfl
/-- The matrices, whose rounding is nothing over the extended reals. -/
theorem V_matrices : (V m c main_v4 : Vec Ideal S1024x6144 .bf16) = m ((c : Thread nD τ).loc main_arg3)
    ∧ (V m c main_v5 : Vec Ideal S1024x1024 .bf16) = m ((c : Thread nD τ).loc main_arg8) ∧ (V m c main_v6 : Vec Ideal S1024x1024 .bf16) = m ((c : Thread nD τ).loc main_arg13)
    ∧ (V m c main_v7 : Vec Ideal S1024x1024 .bf16) = m ((c : Thread nD τ).loc main_arg14) := by
  refine ⟨?_, ?_, ?_, ?_⟩ <;> show StableHlo.after hostOps0 _ _ = _ <;> after_results_simp <;> rfl
/-- The vectors, each as one row. -/
theorem V_rows (d : Fin 1024) : (V m c main_v8 : Vec Ideal S1x1024 .f32) (ix2 0 d) = m ((c : Thread nD τ).loc main_arg2) (ix1 d)
    ∧ (V m c main_v9 : Vec Ideal S1x1024 .f32) (ix2 0 d) = m ((c : Thread nD τ).loc main_arg5) (ix1 d)
    ∧ (V m c main_v10 : Vec Ideal S1x1024 .f32) (ix2 0 d) = m ((c : Thread nD τ).loc main_arg6) (ix1 d)
    ∧ (V m c main_v11 : Vec Ideal S1x1024 .f32) (ix2 0 d) = m ((c : Thread nD τ).loc main_arg7) (ix1 d)
    ∧ (V m c main_v12 : Vec Ideal S1x1024 .f32) (ix2 0 d) = m ((c : Thread nD τ).loc main_arg9) (ix1 d)
    ∧ (V m c main_v13 : Vec Ideal S1x1024 .f32) (ix2 0 d) = m ((c : Thread nD τ).loc main_arg10) (ix1 d) := by
  refine ⟨?_, ?_, ?_, ?_, ?_, ?_⟩ <;> refine Eq.trans (congrFun ?_ _) (asRow_apply _ d) <;> show StableHlo.after hostOps0 _ _ = _ <;> after_results_simp <;> rfl

theorem v0_apply (b : Fin 8) (n : Fin 6) (d : Fin 1024) : (V m c main_v0 : Vec Ideal S8x6x1024 .f32) (ix3 b n d) = argMod (m ((c : Thread nD τ).loc main_arg1)) b n d := by
  rw [V_main_v0]
  exact shapeCast_apply (s := S8x6144) (t := S8x6x1024) _ shapeCasts_S8x6144_S8x6x1024 (ix3 b n d) (ix2 b (part n d)) (by
    rewrite [Shape.rowMajor_val_two, Shape.rowMajor_val_three]; show b.val * 6144 + (1024 * n.val + d.val) = (b.val * 6 + n.val) * 1024 + d.val; omega)

theorem v3_apply (i : Fin 128) (d : Fin 1024) : (V m c main_v3 : Vec Ideal S128x1024 .f32) (ix2 i d) = m ((c : Thread nD τ).loc main_arg12) (ix2 (group d) i) := by
  rw [V_main_v3]
  refine (shapeCast_apply (s := S128x8x128) (t := S128x1024) _ shapeCasts_S128x8x128_S128x1024 (ix2 i d) (ix3 i (group d) ⟨d.val % 128, by omega⟩) (by
    rewrite [Shape.rowMajor_val_two, Shape.rowMajor_val_three]
    show (i.val * 8 + d.val / 128) * 128 + d.val % 128 = i.val * 1024 + d.val; omega)).trans ?_
  refine (broadcastInDim_apply _ bcast_S128x8_S128x8x128_0_1 _ _ (ix2 i (group d)) (fun a => match a with
    | ⟨0, _⟩ => by show i.val = if (128 : Nat) = 1 then 0 else i.val; rw [if_neg (by decide)]
    | ⟨1, _⟩ => by show (group d).val = if (8 : Nat) = 1 then 0 else (group d).val; rw [if_neg (by decide)])).trans ?_
  exact transpose_apply [1, 0] _ transposes_S8x128_S128x8_1_0 _ (ix2 (group d) i) (fun b => match b with
    | ⟨0, _⟩ => rfl
    | ⟨1, _⟩ => rfl)

/-! ### What a window shows -/

theorem at0 : ∀ t : Fin cfg0.N, win0_0.index t = ![t.val / 8, t.val % 8, 0] := (by decide +kernel : ∀ t : Fin grid0.N, win0_0.index t = ![t.val / 8, t.val % 8, 0])
theorem lt64 (t : Fin cfg0.N) : t.val < 64 := lt_of_lt_of_eq t.isLt N_0

theorem blk0 (t : Fin cfg0.N) (r : Fin 256) (d : Fin 1024) : (iblk m c 0 t : Vec Ideal S1x256x1024 .f32) (ix3 0 r d)
    = argRows (m ((c : Thread nD τ).loc main_arg0)) ⟨t.val / 8, by have := lt64 t; omega⟩ ⟨256 * (t.val % 8) + r.val, by omega⟩ d := by
  blk_simp [iblk]
  rw [V_main_arg0]
  refine congrArg (m ((c : Thread nD τ).loc main_arg0)) ?_
  blk_ext [at0]

theorem at1 : ∀ t : Fin cfg0.N, win0_1.index t = ![t.val / 8, 0, 0] := (by decide +kernel : ∀ t : Fin grid0.N, win0_1.index t = ![t.val / 8, 0, 0])

theorem blk1 (t : Fin cfg0.N) (n : Fin 6) (d : Fin 1024) : (iblk m c 1 t : Vec Ideal S1x6x1024 .f32) (ix3 0 n d)
    = argMod (m ((c : Thread nD τ).loc main_arg1)) ⟨t.val / 8, by have := lt64 t; omega⟩ n d := by
  rw [← v0_apply]
  blk_simp [iblk]
  refine congrArg (V m c main_v0) ?_
  blk_ext [at1]

/-- The windows of the weights stay where they are. -/
theorem at_rest : ∀ t : Fin cfg0.N, win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0, 0]
    ∧ win0_12.index t = ![0, 0] ∧ win0_13.index t = ![0, 0] ∧ win0_14.index t = ![0, 0] :=
  (by decide +kernel : ∀ t : Fin grid0.N, win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0, 0]
    ∧ win0_12.index t = ![0, 0] ∧ win0_13.index t = ![0, 0] ∧ win0_14.index t = ![0, 0])
set_option maxHeartbeats 4000000 in
/-- So each shows its array whole. -/
theorem blk_rest (t : Fin cfg0.N) : (iblk m c 2 t : Vec Ideal S1x1024 .f32) = V m c main_v8
    ∧ (iblk m c 3 t : Vec Ideal S1024x6144 .bf16) = V m c main_v4
    ∧ (iblk m c 4 t : Vec Ideal S31x1024 .f32) = V m c main_arg4
    ∧ (iblk m c 5 t : Vec Ideal S1x1024 .f32) = V m c main_v9
    ∧ (iblk m c 6 t : Vec Ideal S1x1024 .f32) = V m c main_v10
    ∧ (iblk m c 7 t : Vec Ideal S1x1024 .f32) = V m c main_v11
    ∧ (iblk m c 8 t : Vec Ideal S1024x1024 .bf16) = V m c main_v5
    ∧ (iblk m c 9 t : Vec Ideal S1x1024 .f32) = V m c main_v12
    ∧ (iblk m c 10 t : Vec Ideal S1x1024 .f32) = V m c main_v13
    ∧ (iblk m c 11 t : Vec Ideal S8x128x128 .f32) = V m c main_arg11
    ∧ (iblk m c 12 t : Vec Ideal S128x1024 .f32) = V m c main_v3
    ∧ (iblk m c 13 t : Vec Ideal S1024x1024 .bf16) = V m c main_v6
    ∧ (iblk m c 14 t : Vec Ideal S1024x1024 .bf16) = V m c main_v7 := by
  refine ⟨?_, ?_, ?_, ?_, ?_, ?_, ?_, ?_, ?_, ?_, ?_, ?_, ?_⟩ <;> funext x <;> blk_simp [iblk] <;> refine congrArg (V m c _) ?_ <;> blk_ext [at_rest]

/-- The weights as the arguments hold them. -/
abbrev kW : Weights := argWeights (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11)) (m ((c : Thread nD τ).loc main_arg12))
  (m ((c : Thread nD τ).loc main_arg13)) (m ((c : Thread nD τ).loc main_arg14))

/-- The weights that a point's windows show are the arguments'. -/
theorem wts_eq (t : Fin cfg0.N) : wts (iblk m c 2 t) (iblk m c 3 t) (iblk m c 4 t) (iblk m c 5 t) (iblk m c 6 t) (iblk m c 7 t) (iblk m c 8 t)
    (iblk m c 9 t) (iblk m c 10 t) (iblk m c 11 t) (iblk m c 13 t) (iblk m c 14 t) (fun g i => m ((c : Thread nD τ).loc main_arg12) (ix2 g i)) = kW m c := by
  obtain ⟨h2, h3, h4, h5, h6, h7, h8, h9, h10, h11, -, h13, h14⟩ := blk_rest m c t
  obtain ⟨e3, e8, e13, e14⟩ := V_matrices m c
  rw [h2, h3, h4, h5, h6, h7, h8, h9, h10, h11, h13, h14, e3, e8, e13, e14, V_main_arg4, V_main_arg11]
  have e := V_rows m c
  unfold wts kW argWeights
  congr 1 <;> funext d
  · exact (e d).1
  · exact (e d).2.1
  · exact (e d).2.2.1
  · exact (e d).2.2.2.1
  · exact (e d).2.2.2.2.1
  · exact (e d).2.2.2.2.2

/-- The spatial bias that a point's window shows is the argument's, by groups. -/
theorem bias_eq (t : Fin cfg0.N) (i : Fin 128) (d : Fin 1024) : (iblk m c 12 t : Vec Ideal S128x1024 .f32) (ix2 i d) = m ((c : Thread nD τ).loc main_arg12) (ix2 (group d) i) := by
  rw [(blk_rest m c t).2.2.2.2.2.2.2.2.2.2.1, v3_apply]

/-- The normalized row `r` of a point's block is the sequence's. -/
theorem nRow_eq (t : Fin cfg0.N) (r : Fin 256) : nRow (iblk m c 0 t) (iblk m c 1 t) (iblk m c 2 t) r
    = (kW m c).n (argRows (m ((c : Thread nD τ).loc main_arg0)) ⟨t.val / 8, by have := lt64 t; omega⟩)
        (argMod (m ((c : Thread nD τ).loc main_arg1)) ⟨t.val / 8, by have := lt64 t; omega⟩) ⟨256 * (t.val % 8) + r.val, by omega⟩ := by
  unfold nRow Weights.n
  have e : row1 (iblk m c 2 t : Vec Ideal S1x1024 .f32) = (kW m c).g1 := by
    rw [(blk_rest m c t).1]; exact funext fun d => (V_rows m c d).1
  rw [e]
  congr 1
  · exact funext (blk0 m c t r)
  · exact funext (blk1 m c t 1)
  · exact funext (blk1 m c t 0)

end Cert.Sub1
-- ==== Proof.Sub1.Result.lean ====
/- The kernel's result: at every point the block written is the sub-layer's, so the array is. -/
module

public import proofs.«01_k».proof.Proof.Sub1.Host
public import proofs.«01_k».proof.Proof.Gen.Kernel2Ideal.Value

@[expose] public section

set_option maxRecDepth 100000

noncomputable section

namespace Cert.Sub1

open Cert.Kernel2Ideal Cert.Kernel2Ideal.Gen
open Idealize.ShloMosaic Idealize.ShloMosaic.TcCoe

variable (m : (ℓ : Loc nD τ sig) → Buf (Elt Ideal) ℓ) (c : Dev nD)

/-- The sequence of a point of the grid. -/
abbrev seqOf (t : Fin cfg0.N) : Fin 8 := ⟨t.val / 8, by have := lt64 t; omega⟩
/-- The rows of the sequence that a point works on. -/
abbrev kX (t : Fin cfg0.N) : Fin 2048 → Row := argRows (m ((c : Thread nD τ).loc main_arg0)) (seqOf t)
/-- Its modulation. -/
abbrev kM (t : Fin cfg0.N) : Fin 6 → Row := argMod (m ((c : Thread nD τ).loc main_arg1)) (seqOf t)
/-- The spatial bias by groups. -/
abbrev kB : Fin 8 → Fin 128 → EReal := fun g i => m ((c : Thread nD τ).loc main_arg12) (ix2 g i)

/-- A point's block of output, where the buffer of the gated rows held the rows before the block. -/
theorem outRow_eq (t : Fin cfg0.N) (h : ℕ → Row)
    (hh : ∀ k, 2 ≤ k → k < 32 → h k = (kW m c).back (kX m c t) (kM m c t) (256 * (t.val % 8) + k - 2)) (r : Fin 256) :
    outRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 13 t) (iblk m c 14 t)  (kB m c) h r
      = (kW m c).sub1 (kX m c t) (kM m c t) ⟨256 * (t.val % 8) + r.val, by omega⟩ := by
  have hw := wts_eq m c t
  have hn := nRow_eq m c t
  have h11 : (fun g i j => (iblk m c 11 t : Vec Ideal S8x128x128 .f32) (ix3 g i j)) = (kW m c).wsp := congrArg (·.wsp) hw
  have hx : (fun k => (iblk m c 0 t : Vec Ideal S1x256x1024 .f32) (ix3 0 r k)) = kX m c t ⟨256 * (t.val % 8) + r.val, by omega⟩ := funext (blk0 m c t r)
  have hg : (fun k => (iblk m c 1 t : Vec Ideal S1x6x1024 .f32) (ix3 0 2 k)) = kM m c t 2 := funext (blk1 m c t 2)
  unfold outRow zR
  rw [hw, h11, hx, hg]
  simp only [hn]
  unfold Weights.sub1
  congr 1
  · funext k
    show zRows h _ _ = _
    by_cases hr : 32 ≤ r.val + (2 + k.val)
    · rw [zRows, dif_pos ⟨hr, by omega⟩, Weights.back, dif_pos ⟨by show 30 ≤ 256 * (t.val % 8) + r.val + k.val; omega, by show 256 * (t.val % 8) + r.val + k.val < 2078; omega⟩]
      exact congrArg (fun s => (kW m c).z ((kW m c).n (kX m c t) (kM m c t) s))
        (Fin.ext (by show 256 * (t.val % 8) + (r.val + (2 + k.val) - 32) = 256 * (t.val % 8) + r.val + k.val - 30; omega))
    · rw [zRows, dif_neg (fun e => hr e.1), hh _ (by omega) (by omega)]
      exact congrArg ((kW m c).back (kX m c t) (kM m c t)) (by show 256 * (t.val % 8) + (r.val + (2 + k.val)) - 2 = 256 * (t.val % 8) + r.val + k.val; omega)
  · refine congr (congrArg (mixRow _ _) (Fin.ext ?_)) (funext fun j => ?_)
    · show r.val % 128 = (256 * (t.val % 8) + r.val) % 128; omega
    · exact congrArg (fun s => (kW m c).v ((kW m c).n (kX m c t) (kM m c t) s))
        (Fin.ext (by show 256 * (t.val % 8) + (128 * (r.val / 128) + j.val) = 128 * ((256 * (t.val % 8) + r.val) / 128) + j.val; omega))

set_option maxHeartbeats 4000000 in
/-- The rows that a point leaves for the next. -/
theorem kept (t : Fin cfg0.N) (k : Fin 32) (d : Fin 1024) :
    (outsAt0 m c t.val t.isLt).2 (ix2 ⟨k.val, by omega⟩ d)
      = (kW m c).z ((kW m c).n (kX m c t) (kM m c t) ⟨256 * (t.val % 8) + (224 + k.val), by omega⟩) d := by
  have e := congrFun (congrArg (kW m c).z (nRow_eq m c t ⟨224 + k.val, by omega⟩)) d
  rw [← wts_eq m c t] at e
  refine Eq.trans ?_ (e.trans (by rw [wts_eq]))
  by_cases h0 : t.val % 8 = 0
  · refine (congrFun (congrArg Prod.snd (outsAt0_A m c t h0)) _).trans ?_
    dsimp only
    exact keeps_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _)
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((hcond0_0 t).mpr h0) (kB m c) k d
  · refine (congrFun (congrArg Prod.snd (outsAt0_B m c t h0)) _).trans ?_
    dsimp only
    exact keeps_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _)
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
        (outsAt0 m c (t.val - 1) (Nat.lt_of_le_of_lt (Nat.sub_le _ _) t.isLt)).2 (fun h => h0 ((hcond0_0 t).mp h)) (kB m c) k d

set_option maxHeartbeats 4000000 in
/-- What a point leaves in the output's block: the sub-layer's rows. -/
theorem left (t : Fin cfg0.N) (r : Fin 256) (d : Fin 1024) :
    (outsAt0 m c t.val t.isLt).1 (ix3 0 r d) = (kW m c).sub1 (kX m c t) (kM m c t) ⟨256 * (t.val % 8) + r.val, by omega⟩ d := by
  by_cases h0 : t.val % 8 = 0
  · rw [← outRow_eq m c t (fun _ _ => 0) (fun k _ hk => by rw [Weights.back, dif_neg (by omega)])]
    refine (congrFun (congrArg Prod.fst (outsAt0_A m c t h0)) _).trans ?_
    dsimp only
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _)
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((hcond0_0 t).mpr h0) (kB m c) (bias_eq m c t) r d
  · rw [← outRow_eq m c t (halo (outsAt0 m c (t.val - 1) (Nat.lt_of_le_of_lt (Nat.sub_le _ _) t.isLt)).2) (fun k h2 hk => ?_)]
    · refine (congrFun (congrArg Prod.fst (outsAt0_B m c t h0)) _).trans ?_
      dsimp only
      exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _)
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
        (outsAt0 m c (t.val - 1) (Nat.lt_of_le_of_lt (Nat.sub_le _ _) t.isLt)).2 (fun h => h0 ((hcond0_0 t).mp h)) (kB m c) (bias_eq m c t) r d
    · have hs : t.val - 1 < cfg0.N := Nat.lt_of_le_of_lt (Nat.sub_le _ _) t.isLt
      funext d
      refine (dif_pos (by omega : k < 296)).trans ((kept m c ⟨t.val - 1, hs⟩ ⟨k, hk⟩ d).trans ?_)
      have hq : seqOf ⟨t.val - 1, hs⟩ = seqOf t := Fin.ext (by show (t.val - 1) / 8 = t.val / 8; omega)
      rw [Weights.back, dif_pos (by omega), kX, kM, hq]
      exact congrArg (fun s => (kW m c).z ((kW m c).n (kX m c t) (kM m c t) s) d) (Fin.ext (by show 256 * ((t.val - 1) % 8) + (224 + k) = 256 * (t.val % 8) + k - 2 - 30; omega))

theorem at15 : ∀ t : Fin cfg0.N, win0_15.index t = ![t.val / 8, t.val % 8, 0] := (by decide +kernel : ∀ t : Fin grid0.N, win0_15.index t = ![t.val / 8, t.val % 8, 0])

/-- The result array. -/
theorem result : (dats m 0 c).arrAt 15 cfg0.N
    = subLayer (kW m c) (m ((c : Thread nD τ).loc main_arg0)) (m ((c : Thread nD τ).loc main_arg1)) := by
  refine (dats m 0 c).arrAt_eq_of_covers 15 _ (by decide +kernel) fun t hf y => ?_
  blk_simp
  rw [after0_15]
  obtain ⟨r, d, rfl⟩ : ∃ (r : Fin 256) (d : Fin 1024), y = ix3 0 r d :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  refine (left m c t r d).trans ?_
  have e : (win0_15.blk t).view.emb (ix3 0 r d) = (ix3 (seqOf t) ⟨256 * (t.val % 8) + r.val, by omega⟩ d : S8x2048x1024.Idx) := by
    blk_ext [at15]
  rw [e]
  rfl

end Cert.Sub1
-- ==== Proof.Sub1.RefRows.lean ====
/- The reference's rows up to the convolution's input: the normalized row, its six projections, and the gated row. -/
module

public import proofs.«01_k».proof.Proof.Sub1.Spec
public import proofs.«01_k».proof.Proof.Gen.Reference2Ideal.Read

@[expose] public section

set_option maxRecDepth 100000

noncomputable section

namespace Cert.Sub1.Ref

open Cert.Reference2Ideal Cert.Reference2Ideal.Read
open Idealize.ShloMosaic Idealize.ShloMosaic.TcCoe

variable (a0 : Vec Ideal S8x2048x1024 .f32) (a1 : Vec Ideal S8x6144 .f32) (a2 : Vec Ideal S1024 .f32) (a3 : Vec Ideal S1024x6144 .f32)

/-- The normalized row. -/
abbrev nRow (b : Fin 8) (s : Fin 2048) : Row := rmsMod (argRows a0 b s) (fun d => a2 (ix1 d)) (argMod a1 b 1) (argMod a1 b 0)

/-- The projections' weights. -/
abbrev win (n : Fin 6) (k : Fin 1024) : Row := fun e => a3 (ix2 k (part n e))

theorem first_part (e : Fin 1024) : part 0 e = ⟨e.val, by omega⟩ := Fin.ext (by show 1024 * 0 + e.val = e.val; omega)

theorem norm_apply (b : Fin 8) (s : Fin 2048) (d : Fin 1024) : val_main_v26 (F := Ideal) a0 a1 a2 (ix3 b s d) = nRow a0 a1 a2 b s d := by
  pointwise [val_main_v26, val_main_v25, val_main_v24, val_main_v23, val_main_v22, val_main_v21, val_main_v20, val_main_cst_2, val_main_v19,
    val_main_v18, val_main_v17, val_main_v16, val_main_v15, val_main_v14, val_main_v13, val_main_v12, val_main_v11, val_main_cst_1,
    val_main_v10, val_main_v9, val_main_cst_0, val_main_v8, val_main_v7, val_main_cst, val_main_v6, val_main_v1, val_main_v0]
  rw [← first_part d]
  rfl

/-- Column `e` of projection `n`, at a column of the joint projection. -/
theorem proj_apply (b : Fin 8) (s : Fin 2048) (n : Fin 6) (e : Fin 1024) :
    val_main_v27 (F := Ideal) a0 a1 a2 a3 (ix3 b s (part n e)) = dot (nRow a0 a1 a2 b s) (win a3 n) e := by
  have h := norm_apply a0 a1 a2 b s
  pointwise [val_main_v27]
  simp only [h]
  rfl

theorem parts_apply (b : Fin 8) (s : Fin 2048) (e : Fin 1024) :
    val_main_v28 (F := Ideal) a0 a1 a2 a3 (ix3 b s e) = dot (nRow a0 a1 a2 b s) (win a3 0) e
    ∧ val_main_v29 (F := Ideal) a0 a1 a2 a3 (ix3 b s e) = dot (nRow a0 a1 a2 b s) (win a3 1) e
    ∧ val_main_v30 (F := Ideal) a0 a1 a2 a3 (ix3 b s e) = dot (nRow a0 a1 a2 b s) (win a3 2) e
    ∧ val_main_v31 (F := Ideal) a0 a1 a2 a3 (ix3 b s e) = dot (nRow a0 a1 a2 b s) (win a3 3) e
    ∧ val_main_v32 (F := Ideal) a0 a1 a2 a3 (ix3 b s e) = dot (nRow a0 a1 a2 b s) (win a3 4) e
    ∧ val_main_v33 (F := Ideal) a0 a1 a2 a3 (ix3 b s e) = dot (nRow a0 a1 a2 b s) (win a3 5) e := by
  simp only [← proj_apply]
  refine ⟨?_, ?_, ?_, ?_, ?_, ?_⟩ <;>
    pointwise [val_main_v28, val_main_v29, val_main_v30, val_main_v31, val_main_v32, val_main_v33]
  · rw [first_part]
  all_goals rfl

/-- The gated row. -/
theorem gated_apply (b : Fin 8) (s : Fin 2048) (d : Fin 1024) :
    val_main_v40 (F := Ideal) a0 a1 a2 a3 (ix3 b s d) = gated (dot (nRow a0 a1 a2 b s) (win a3 0)) (dot (nRow a0 a1 a2 b s) (win a3 1)) d := by
  have h := parts_apply a0 a1 a2 a3 b s d
  pointwise [val_main_v40, val_main_v39, val_main_v38, val_main_cst_4, val_main_v37, val_main_v36, val_main_cst_3, val_main_v35, val_main_v34]
  rw [h.1, h.2.1]
  rfl

end Cert.Sub1.Ref
-- ==== Proof.Sub1.RefConv.lean ====
/- The reference's convolution branch: the rows that the convolution reaches, its sum over the taps, the norm and the
   activation. -/
module

public import proofs.«01_k».proof.Proof.Sub1.RefRows

@[expose] public section

set_option maxRecDepth 100000

noncomputable section

namespace Cert.Sub1.Ref

open Cert.Reference2Ideal Cert.Reference2Ideal.Read
open Idealize.ShloMosaic Idealize.ShloMosaic.TcCoe

variable (a0 : Vec Ideal S8x2048x1024 .f32) (a1 : Vec Ideal S8x6144 .f32) (a2 : Vec Ideal S1024 .f32) (a3 : Vec Ideal S1024x6144 .f32)
  (a4 : Vec Ideal S31x1024 .f32) (a5 a6 a7 : Vec Ideal S1024 .f32)

/-- The gated row 30 positions before `p`, zero before the sequence's start. -/
def before (b : Fin 8) (p : ℕ) : Row := if h : 30 ≤ p ∧ p < 2078 then
  gated (dot (nRow a0 a1 a2 b ⟨p - 30, by omega⟩) (win a3 0)) (dot (nRow a0 a1 a2 b ⟨p - 30, by omega⟩) (win a3 1)) else fun _ => 0

theorem pad_apply (b : Fin 8) (p : Fin 2078) (d : Fin 1024) :
    val_main_v41 (F := Ideal) a0 a1 a2 a3 (ix3 b p d) = before a0 a1 a2 a3 b p.val d := by
  pointwise [val_main_v41, val_main_call0_v0, val_main_c]
  rw [before]
  by_cases h : 30 ≤ p.val
  · rw [dif_pos ⟨h, by omega⟩, dif_pos ⟨h, p.isLt⟩, gated_apply]
  · rw [dif_neg (fun e => h e.1), dif_neg (fun e => h e.1)]
    show ((((0#32 : BitVec 32).toInt : ℝ)) : EReal) = 0
    simp

/-- The unrolled taps, as one sum. -/
theorem tap_sum (b : Fin 8) (s : Fin 2048) (d : Fin 1024) :
    val_main_v259 (F := Ideal) a0 a1 a2 a3 a4 (ix3 b s d) = ∑ k : Fin 31, before a0 a1 a2 a3 b (s.val + k.val) d * a4 (ix2 k d) := by
  have h : ∀ k : Fin 31, before a0 a1 a2 a3 b (s.val + k.val) d = val_main_v41 (F := Ideal) a0 a1 a2 a3 (ix3 b ⟨k.val + s.val, by omega⟩ d) :=
    fun k => by rw [pad_apply, Nat.add_comm]
  simp only [h]
  pointwise [val_main_v42, val_main_v43, val_main_v44, val_main_v45, val_main_v46, val_main_v47, val_main_v48, val_main_v49,
    val_main_v50, val_main_v51, val_main_v52, val_main_v53, val_main_v54, val_main_v55, val_main_v56, val_main_v57,
    val_main_v58, val_main_v59, val_main_v60, val_main_v61, val_main_v62, val_main_v63, val_main_v64, val_main_v65,
    val_main_v66, val_main_v67, val_main_v68, val_main_v69, val_main_v70, val_main_v71, val_main_v72, val_main_v73,
    val_main_v74, val_main_v75, val_main_v76, val_main_v77, val_main_v78, val_main_v79, val_main_v80, val_main_v81,
    val_main_v82, val_main_v83, val_main_v84, val_main_v85, val_main_v86, val_main_v87, val_main_v88, val_main_v89,
    val_main_v90, val_main_v91, val_main_v92, val_main_v93, val_main_v94, val_main_v95, val_main_v96, val_main_v97,
    val_main_v98, val_main_v99, val_main_v100, val_main_v101, val_main_v102, val_main_v103, val_main_v104, val_main_v105,
    val_main_v106, val_main_v107, val_main_v108, val_main_v109, val_main_v110, val_main_v111, val_main_v112, val_main_v113,
    val_main_v114, val_main_v115, val_main_v116, val_main_v117, val_main_v118, val_main_v119, val_main_v120, val_main_v121,
    val_main_v122, val_main_v123, val_main_v124, val_main_v125, val_main_v126, val_main_v127, val_main_v128, val_main_v129,
    val_main_v130, val_main_v131, val_main_v132, val_main_v133, val_main_v134, val_main_v135, val_main_v136, val_main_v137,
    val_main_v138, val_main_v139, val_main_v140, val_main_v141, val_main_v142, val_main_v143, val_main_v144, val_main_v145,
    val_main_v146, val_main_v147, val_main_v148, val_main_v149, val_main_v150, val_main_v151, val_main_v152, val_main_v153,
    val_main_v154, val_main_v155, val_main_v156, val_main_v157, val_main_v158, val_main_v159, val_main_v160, val_main_v161,
    val_main_v162, val_main_v163, val_main_v164, val_main_v165, val_main_v166, val_main_v167, val_main_v168, val_main_v169,
    val_main_v170, val_main_v171, val_main_v172, val_main_v173, val_main_v174, val_main_v175, val_main_v176, val_main_v177,
    val_main_v178, val_main_v179, val_main_v180, val_main_v181, val_main_v182, val_main_v183, val_main_v184, val_main_v185,
    val_main_v186, val_main_v187, val_main_v188, val_main_v189, val_main_v190, val_main_v191, val_main_v192, val_main_v193,
    val_main_v194, val_main_v195, val_main_v196, val_main_v197, val_main_v198, val_main_v199, val_main_v200, val_main_v201,
    val_main_v202, val_main_v203, val_main_v204, val_main_v205, val_main_v206, val_main_v207, val_main_v208, val_main_v209,
    val_main_v210, val_main_v211, val_main_v212, val_main_v213, val_main_v214, val_main_v215, val_main_v216, val_main_v217,
    val_main_v218, val_main_v219, val_main_v220, val_main_v221, val_main_v222, val_main_v223, val_main_v224, val_main_v225,
    val_main_v226, val_main_v227, val_main_v228, val_main_v229, val_main_v230, val_main_v231, val_main_v232, val_main_v233,
    val_main_v234, val_main_v235, val_main_v236, val_main_v237, val_main_v238, val_main_v239, val_main_v240, val_main_v241,
    val_main_v242, val_main_v243, val_main_v244, val_main_v245, val_main_v246, val_main_v247, val_main_v248, val_main_v249,
    val_main_v250, val_main_v251, val_main_v252, val_main_v253, val_main_v254, val_main_v255, val_main_v256, val_main_v257,
    val_main_v258, val_main_v259, val_main_cst_5]
  simp only [Fin.sum_univ_castSucc, Finset.univ_eq_empty, Finset.sum_empty, Fin.val_castSucc, Fin.val_last, zero_add]
  rfl

/-- The convolution's row after the norm and the activation. -/
theorem conv_apply (b : Fin 8) (s : Fin 2048) (d : Fin 1024) :
    val_main_v293 (F := Ideal) a0 a1 a2 a3 a4 a5 a6 a7 (ix3 b s d)
      = silu (layerNorm (convRow (fun d => a5 (ix1 d)) (fun k d => a4 (ix2 k d)) fun k => before a0 a1 a2 a3 b (s.val + k.val))
          (fun d => a6 (ix1 d)) (fun d => a7 (ix1 d))) d := by
  have h : ∀ d, val_main_v262 (F := Ideal) a0 a1 a2 a3 a4 a5 (ix3 b s d)
      = convRow (fun d => a5 (ix1 d)) (fun k d => a4 (ix2 k d)) (fun k => before a0 a1 a2 a3 b (s.val + k.val)) d := fun d => by
    pointwise [val_main_v262, val_main_v261, val_main_v260]
    rw [tap_sum, add_comm]
    rfl
  pointwise [val_main_v293, val_main_v292, val_main_v291, val_main_cst_12, val_main_v290, val_main_v289, val_main_cst_11, val_main_v288,
    val_main_v287, val_main_v286, val_main_v285, val_main_v284, val_main_v283, val_main_v282, val_main_v281, val_main_v280, val_main_v279,
    val_main_v278, val_main_v277, val_main_v276, val_main_cst_10, val_main_v275, val_main_v274, val_main_v273, val_main_v272, val_main_cst_9,
    val_main_v271, val_main_v270, val_main_cst_8, val_main_v269, val_main_v268, val_main_v267, val_main_v266, val_main_v265, val_main_cst_7,
    val_main_v264, val_main_v263, val_main_cst_6]
  simp only [h]
  rfl

/-- The convolution branch. -/
theorem branchA_apply (a8 : Vec Ideal S1024x1024 .f32) (b : Fin 8) (s : Fin 2048) (d : Fin 1024) :
    val_main_v294 (F := Ideal) a0 a1 a2 a3 a4 a5 a6 a7 a8 (ix3 b s d)
      = dot (silu (layerNorm (convRow (fun d => a5 (ix1 d)) (fun k d => a4 (ix2 k d)) fun k => before a0 a1 a2 a3 b (s.val + k.val))
          (fun d => a6 (ix1 d)) (fun d => a7 (ix1 d)))) (fun k e => a8 (ix2 k e)) d := by
  pointwise [val_main_v294]
  simp only [conv_apply]
  rfl

end Cert.Sub1.Ref
-- ==== Proof.Sub1.RefMix.lean ====
/- The reference's spatial mixing: the norm of its input, the mask over the chunks, and the mixed row. -/
module

public import proofs.«01_k».proof.Proof.Sub1.RefRows

@[expose] public section

set_option maxRecDepth 100000

noncomputable section

namespace Cert.Sub1.Ref

open Cert.Reference2Ideal Cert.Reference2Ideal.Read
open Idealize.ShloMosaic Idealize.ShloMosaic.TcCoe

variable (a0 : Vec Ideal S8x2048x1024 .f32) (a1 : Vec Ideal S8x6144 .f32) (a2 : Vec Ideal S1024 .f32) (a3 : Vec Ideal S1024x6144 .f32)
variable (a9 a10 : Vec Ideal S1024 .f32) (a11 : Vec Ideal S8x128x128 .f32) (a12 : Vec Ideal S8x128 .f32)

/-- The normalized values that the mixing takes. -/
abbrev vRow (b : Fin 8) (s : Fin 2048) : Row :=
  layerNorm (dot (nRow a0 a1 a2 b s) (win a3 3)) (fun d => a9 (ix1 d)) (fun d => a10 (ix1 d))

theorem values_apply (b : Fin 8) (s : Fin 2048) (d : Fin 1024) :
    val_main_v318 (F := Ideal) a0 a1 a2 a3 a9 a10 (ix3 b s d) = vRow a0 a1 a2 a3 a9 a10 b s d := by
  have h : ∀ d, val_main_v31 (F := Ideal) a0 a1 a2 a3 (ix3 b s d) = dot (nRow a0 a1 a2 b s) (win a3 3) d :=
    fun d => (parts_apply a0 a1 a2 a3 b s d).2.2.2.1
  pointwise [val_main_v318, val_main_v317, val_main_v316, val_main_v315, val_main_v314, val_main_v313, val_main_v312, val_main_v311,
    val_main_v310, val_main_v309, val_main_v308, val_main_cst_17, val_main_v307, val_main_v306, val_main_v305, val_main_v304,
    val_main_cst_16, val_main_v303, val_main_v302, val_main_cst_15, val_main_v301, val_main_v300, val_main_v299, val_main_v298,
    val_main_v297, val_main_cst_14, val_main_v296, val_main_v295, val_main_cst_13]
  simp only [h]
  rfl

/-- The chunk of a position, as the reference's integer division gives it. -/
theorem chunk_apply (i : Fin 128) : val_main_v320 (F := Ideal) (ix1 i) = BitVec.ofNat 32 (i.val / 64) := by
  revert i
  decide

/-- The mask's entry. -/
theorem mask_apply (g : Fin 8) (i j : Fin 128) :
    val_main_v327 (F := Ideal) a11 (ix3 g i j) = if reaches i j then a11 (ix3 g i j) else 0 := by
  pointwise [val_main_v327, val_main_call2_v2, val_main_call2_v1, val_main_call2_v0, val_main_cst_19, val_main_v326, val_main_v325,
    val_main_v324, val_main_v323, val_main_v322, val_main_v321]
  rw [chunk_apply, chunk_apply]
  have hi : i.val / 64 < 2 := by omega
  have hj : j.val / 64 < 2 := by omega
  unfold reaches
  generalize i.val / 64 = p at *
  generalize j.val / 64 = q at *
  generalize a11 (ix3 g i j) = x
  have hz : (id (constant (F := Ideal) S_ FTy.f32 0#32) ix0 : EReal) = 0 := Ideal.ofBits_zero_f32
  rw [hz]
  interval_cases p <;> interval_cases q <;> rfl

/-- The mixed row. -/
theorem mix_apply (b : Fin 8) (s : Fin 2048) (d : Fin 1024) :
    val_main_v335 (F := Ideal) a0 a1 a2 a3 a9 a10 a11 a12 (ix3 b s d)
      = mixRow (fun g i j => a11 (ix3 g i j)) (fun g i => a12 (ix2 g i)) ⟨s.val % 128, by omega⟩
          (fun j => vRow a0 a1 a2 a3 a9 a10 b ⟨128 * (s.val / 128) + j.val, by omega⟩) d := by
  rw [val_main_v335_apply, val_main_v334_apply, val_main_v330_apply, val_main_v329_apply, val_main_v333_apply, val_main_v332_apply,
    val_main_v331_apply]
  have hg : (group d).val = d.val / 128 := rfl
  refine congrArg₂ (· + ·) (Finset.sum_congr rfl fun k _ => ?_) (congrArg a12 ?_)
  · rw [val_main_v328_apply, mul_comm]
    refine congrArg₂ (· * ·) (Eq.trans (congrArg _ ?_) (mask_apply a11 (group d) ⟨s.val % 128, by omega⟩ k))
      (Eq.trans (congrArg _ ?_) (values_apply a0 a1 a2 a3 a9 a10 b ⟨128 * (s.val / 128) + k.val, by omega⟩ d))
    all_goals
      funext a
      fin_cases a <;> refine Fin.ext ?_ <;> dsimp <;> omega
  · funext a
    fin_cases a <;> refine Fin.ext ?_ <;> dsimp <;> omega

end Cert.Sub1.Ref
-- ==== Proof.Sub1.RefResult.lean ====
/- The reference's result, as the sub-layer of the specification. -/
module

public import proofs.«01_k».proof.Proof.Sub1.RefConv
public import proofs.«01_k».proof.Proof.Sub1.RefMix

@[expose] public section

set_option maxRecDepth 100000

noncomputable section

namespace Cert.Sub1.Ref

open Cert.Reference2Ideal Cert.Reference2Ideal.Read
open Idealize.ShloMosaic Idealize.ShloMosaic.TcCoe

variable (a0 : Vec Ideal S8x2048x1024 .f32) (a1 : Vec Ideal S8x6144 .f32) (a2 : Vec Ideal S1024 .f32) (a3 : Vec Ideal S1024x6144 .f32)
variable (a4 : Vec Ideal S31x1024 .f32) (a5 a6 a7 : Vec Ideal S1024 .f32) (a8 : Vec Ideal S1024x1024 .f32)
variable (a9 a10 : Vec Ideal S1024 .f32) (a11 : Vec Ideal S8x128x128 .f32) (a12 : Vec Ideal S8x128 .f32)
variable (a13 a14 : Vec Ideal S1024x1024 .f32)

/-- The weights that the arguments hold. -/
abbrev rW : Weights := argWeights a2 a3 a4 a5 a6 a7 a8 a9 a10 a11 a12 a13 a14

/-- The mixed row. -/
abbrev mixed (b : Fin 8) (s : Fin 2048) : Row :=
  mixRow (fun g i j => a11 (ix3 g i j)) (fun g i => a12 (ix2 g i)) ⟨s.val % 128, by omega⟩
    fun j => vRow a0 a1 a2 a3 a9 a10 b ⟨128 * (s.val / 128) + j.val, by omega⟩

/-- The spatial gating branch. -/
theorem branchB_apply (b : Fin 8) (s : Fin 2048) (d : Fin 1024) :
    val_main_v337 (F := Ideal) a0 a1 a2 a3 a9 a10 a11 a12 a13 (ix3 b s d)
      = dot (fun k => dot (nRow a0 a1 a2 b s) (win a3 2) k * mixed a0 a1 a2 a3 a9 a10 a11 a12 b s k) (fun k e => a13 (ix2 k e)) d := by
  have h : ∀ d, val_main_v30 (F := Ideal) a0 a1 a2 a3 (ix3 b s d) = dot (nRow a0 a1 a2 b s) (win a3 2) d :=
    fun d => (parts_apply a0 a1 a2 a3 b s d).2.2.1
  pointwise [val_main_v337, val_main_v336]
  simp only [h, mix_apply]
  rfl

/-- The result at one channel. -/
theorem result_apply (b : Fin 8) (s : Fin 2048) (d : Fin 1024) :
    val_main_v357 (F := Ideal) a0 a1 a2 a3 a4 a5 a6 a7 a8 a9 a10 a11 a12 a13 a14 (ix3 b s d)
      = (rW a2 a3 a4 a5 a6 a7 a8 a9 a10 a11 a12 a13 a14).sub1 (argRows a0 b) (argMod a1 b) s d := by
  have h4 : ∀ d, val_main_v32 (F := Ideal) a0 a1 a2 a3 (ix3 b s d) = dot (nRow a0 a1 a2 b s) (win a3 4) d :=
    fun d => (parts_apply a0 a1 a2 a3 b s d).2.2.2.2.1
  have h5 : ∀ d, val_main_v33 (F := Ideal) a0 a1 a2 a3 (ix3 b s d) = dot (nRow a0 a1 a2 b s) (win a3 5) d :=
    fun d => (parts_apply a0 a1 a2 a3 b s d).2.2.2.2.2
  pointwise [val_main_v357, val_main_v356, val_main_v355, val_main_v354, val_main_v353, val_main_v352, val_main_v351, val_main_v350,
    val_main_v349, val_main_v348, val_main_v347, val_main_v346, val_main_v345, val_main_v344, val_main_v343, val_main_v342,
    val_main_v341, val_main_v340, val_main_v339, val_main_v338, val_main_cst_20, val_main_cst_21, val_main_cst_22, val_main_cst_23,
    val_main_v2]
  simp only [h4, h5, branchA_apply, branchB_apply]
  rfl

/-- The reference's result. -/
theorem result_eq :
    val_main_v357 (F := Ideal) a0 a1 a2 a3 a4 a5 a6 a7 a8 a9 a10 a11 a12 a13 a14
      = subLayer (rW a2 a3 a4 a5 a6 a7 a8 a9 a10 a11 a12 a13 a14) a0 a1 := by
  funext i
  have hi : i = ix3 (i 0) (i 1) (i 2) := eq_ix3 i
  rw [hi]
  exact result_apply a0 a1 a2 a3 a4 a5 a6 a7 a8 a9 a10 a11 a12 a13 a14 (i 0) (i 1) (i 2)

end Cert.Sub1.Ref
-- ==== Proof.Sub1.Algebraic.lean ====
/- The kernel and the reference of the first sub-layer leave the same result: the specification's, on either side. -/
module

public import proofs.«01_k».proof.Defs
public import proofs.«01_k».proof.Proof.Sub1.Result
public import proofs.«01_k».proof.Proof.Sub1.RefResult
public import proofs.«01_k».proof.Proof.Gen.Reference2Ideal.Run
public import Idealize.ShloMosaic.Adequacy

@[expose] public section

noncomputable section

namespace Cert.Sub1

open Idealize.ShloMosaic Idealize.SL.Sem

/-- The reference's result on memories whose arguments are the kernel's is the kernel's array. -/
theorem algebraic : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  obtain ⟨e0, e1, e2, e3, e4, e5, e6, e7, e8, e9, e10, e11, e12, e13, e14⟩ := hagree c
  refine (h c).1.trans ?_
  refine (Cert.Reference2Ideal.Read.val_main_v357_eq (StableHlo.launchContents m' c)).trans ?_
  refine (Ref.result_eq _ _ _ _ _ _ _ _ _ _ _ _ _ _ _).trans ?_
  refine Eq.trans ?_ ((Cert.Kernel2Ideal.Value.final15 m c).symm.trans (result m c)).symm
  have e : ∀ b, StableHlo.launchContents m' c (Proc.tc.devRef b) = m' (c.tc.loc b) := StableHlo.launchContents_devRef m' c
  rw [e, e, e, e, e, e, e, e, e, e, e, e, e, e, e, e0, e1, e2, e3, e4, e5, e6, e7, e8, e9, e10, e11, e12, e13, e14]

end Cert.Sub1
-- ==== Proof.Adaln.Kernel.lean ====
/- The modulation's kernel: each point computes 1536 columns of a product, so the array is the whole product. -/
module

public import proofs.«01_k».proof.Proof.Sub1.Spec
public import proofs.«01_k».proof.Proof.Gen.Kernel3Ideal.Value
public import Idealize.ShloMosaic.Lib.Pipeline.ValueKit

@[expose] public section

set_option maxRecDepth 100000

noncomputable section

namespace Cert.Adaln

open Cert.Sub1 (Row silu Arr1 Arr2)
open Cert.Kernel3Ideal Cert.Kernel3Ideal.Gen
open Idealize.ShloMosaic Idealize.ShloMosaic.TcCoe

/-- The modulation: the conditioning's rows after `x · σ(x)`, times the weights, plus the bias. -/
def modulation (a0 : Arr2 8 1024) (a1 : Arr2 1024 6144) (a2 : Arr1 6144) : Arr2 8 6144 := fun i =>
  (∑ k, silu (fun d => a0 (ix2 (i 0) d)) k * a1 (ix2 k (i 1))) + a2 (ix1 (i 1))

/-- One point's columns, from its blocks. -/
theorem block_apply (x0 : Vec Ideal S8x1024 .f32) (x1 : Vec Ideal S1024x1536 .f32) (x2 : Vec Ideal S1x1536 .f32) (b : Fin 8) (e : Fin 1536) :
    k0_pay1 (F := Ideal) x0 x1 x2 (ix2 b e) = (∑ k, silu (fun d => x0 (ix2 b d)) k * x1 (ix2 k e)) + x2 (ix2 0 e) := by
  pointwise [k0_pay1]
  simp only [zero_sub]
  rfl

variable (m : (ℓ : Loc nD τ sig) → Buf (Elt Ideal) ℓ) (c : Dev nD)

theorem lt4 (t : Fin cfg0.N) : t.val < 4 := lt_of_lt_of_eq t.isLt N_0

/-- The bias as the one row that the host prepares. -/
theorem bias_apply (e : Fin 6144) : (V m c main_v0 : Vec Ideal S1x6144 .f32) (ix2 0 e) = m ((c : Thread nD τ).loc main_arg2) (ix1 e) := by
  have h : (V m c main_v0 : Vec Ideal S1x6144 .f32) = shapeCast S1x6144 (m ((c : Thread nD τ).loc main_arg2)) shapeCasts_S6144_S1x6144 := by
    show StableHlo.after hostOps0 _ _ = _
    after_results_simp; rfl
  rw [h]
  exact shapeCast_apply (s := S6144) (t := S1x6144) _ shapeCasts_S6144_S1x6144 (ix2 0 e) (ix1 e) (by
    rewrite [Shape.rowMajor_val_two, Shape.rowMajor_val_one]; show e.val = 0 * 6144 + e.val; omega)

/-- Where the windows are at each point. -/
theorem places : ∀ t : Fin cfg0.N, win0_0.index t = ![0, 0] ∧ win0_1.index t = ![0, t.val] ∧ win0_2.index t = ![0, t.val] ∧ win0_3.index t = ![0, t.val] :=
  (by decide +kernel : ∀ t : Fin grid0.N, win0_0.index t = ![0, 0] ∧ win0_1.index t = ![0, t.val] ∧ win0_2.index t = ![0, t.val] ∧ win0_3.index t = ![0, t.val])

/-- The columns of a point. -/
abbrev col (t : Fin cfg0.N) (e : Fin 1536) : Fin 6144 := ⟨1536 * t.val + e.val, by have := lt4 t; omega⟩

theorem blk0 (t : Fin cfg0.N) : (iblk m c 0 t : Vec Ideal S8x1024 .f32) = m ((c : Thread nD τ).loc main_arg0) := by
  funext y
  blk_simp [iblk]
  rw [V_main_arg0]
  refine congrArg (m ((c : Thread nD τ).loc main_arg0)) ?_
  blk_ext [(places t).1]

theorem blk1 (t : Fin cfg0.N) (k : Fin 1024) (e : Fin 1536) :
    (iblk m c 1 t : Vec Ideal S1024x1536 .f32) (ix2 k e) = m ((c : Thread nD τ).loc main_arg1) (ix2 k (col t e)) := by
  blk_simp [iblk]
  rw [V_main_arg1]
  refine congrArg (m ((c : Thread nD τ).loc main_arg1)) ?_
  blk_ext [(places t).2.1]

theorem blk2 (t : Fin cfg0.N) (e : Fin 1536) :
    (iblk m c 2 t : Vec Ideal S1x1536 .f32) (ix2 0 e) = m ((c : Thread nD τ).loc main_arg2) (ix1 (col t e)) := by
  rw [← bias_apply m c]
  blk_simp [iblk]
  refine congrArg (V m c main_v0) ?_
  blk_ext [(places t).2.2.1]

/-- The result array. -/
theorem result : (dats m 0 c).arrAt 3 cfg0.N
    = modulation (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨b, e, rfl⟩ : ∃ (b : Fin 8) (e : Fin 1536), y = ix2 b e := ⟨y 0, y 1, ValueIdx.eq_ix2 y⟩
  have hp : (win0_3.blk t).view.emb (ix2 b e) = (ix2 b (col t e) : S8x6144.Idx) := by
    blk_ext [(places t).2.2.2]
  rw [hp, out0_3, View.canon_cons_unit_lit _ _ _ (by decide), View.ld_unit_lit _ _ (by decide), View.ld_unit_lit _ _ (by decide),
    View.ld_unit_lit _ _ (by decide), block_apply, blk0, blk2]
  simp only [blk1]
  rfl

end Cert.Adaln
-- ==== Proof.Adaln.Algebraic.lean ====
/- The modulation's kernel and its reference leave the same result. -/
module

public import proofs.«01_k».proof.Defs
public import proofs.«01_k».proof.Proof.Adaln.Kernel
public import proofs.«01_k».proof.Proof.Gen.Reference3Ideal.Run
public import proofs.«01_k».proof.Proof.Gen.Reference3Ideal.Read
public import Idealize.ShloMosaic.Adequacy

@[expose] public section

noncomputable section

namespace Cert.Adaln

open Idealize.ShloMosaic Idealize.SL.Sem

section Reference

open Cert.Reference3Ideal Cert.Reference3Ideal.Read

/-- The reference's result is the modulation. -/
theorem reference_eq (a0 : Vec Ideal S8x1024 .f32) (a1 : Vec Ideal S1024x6144 .f32) (a2 : Vec Ideal S6144 .f32) :
    val_main_v10 (F := Ideal) a0 a1 a2 = modulation a0 a1 a2 := by
  funext i
  have hi : i = ix2 (i 0) (i 1) := ValueIdx.eq_ix2 i
  rw [hi]
  pointwise [val_main_v10, val_main_v9, val_main_v8, val_main_v7, val_main_v6, val_main_v5, val_main_v4, val_main_cst_0, val_main_v3,
    val_main_v2, val_main_cst, val_main_v1, val_main_v0]
  rfl

end Reference

/-- The reference's result on memories whose arguments are the kernel's is the kernel's array. -/
theorem algebraic : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨e0, e1, e2⟩ := hagree c
  refine ((h c).1.trans (Cert.Reference3Ideal.Read.val_main_v10_eq _ _ _)).trans ((reference_eq _ _ _).trans ?_)
  rw [e0, e1, e2]
  exact (result m c).symm

end Cert.Adaln
-- ==== Proof.lean ====
/- The proof of the claims: the frame of the routing kernel by Route/Frame.lean, the frames of the first sub-layer's
   and the modulation's kernels by their generated frames, the references' frames by their generated runs, the values of
   the first sub-layer by Sub1/Algebraic.lean and of the modulation by Adaln/Algebraic.lean. -/
module

public import proofs.«01_k».proof.Defs
public import proofs.«01_k».proof.Proof.Route.Frame
public import proofs.«01_k».proof.Proof.Sub1.Algebraic
public import proofs.«01_k».proof.Proof.Adaln.Algebraic
public import proofs.«01_k».proof.Proof.Gen.Kernel2.Frame
public import proofs.«01_k».proof.Proof.Gen.Kernel3.Frame
public import proofs.«01_k».proof.Proof.Gen.Kernel3Ideal.Value
public import proofs.«01_k».proof.Proof.Gen.Kernel2Ideal.Value
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel2Ideal.Frame
public import proofs.«01_k».proof.Proof.Gen.Reference2Ideal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, with its arguments unchanged; it has no semaphores. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The modulation's reference terminates, with its arguments unchanged; it has no semaphores. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem claim : Cert.Claim := ⟨Cert.Kernel.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Route.frame (F := Bits) m ρ,
  fun m ρ _ => Cert.Kernel2.Gen.frame m ρ, fun m ρ _ => Cert.Kernel2Ideal.Gen.frame m ρ,
  quiescent_Reference2Ideal,
  fun m ρ _ => Cert.Kernel3.Gen.frame m ρ, fun m ρ _ => Cert.Kernel3Ideal.Gen.frame m ρ,
  quiescent_Reference3Ideal, (trivial : preserves_Kernel2_Kernel2Ideal),
  Cert.Sub1.algebraic, (trivial : preserves_Kernel3_Kernel3Ideal), Cert.Adaln.algebraic⟩

end Cert.Proof

end
